-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys_KernelIdeal [hPre_finite_queries_keys_KernelIdeal : Cert.Pre_finite_queries_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys_ReferenceIdeal [hPre_finite_queries_keys_ReferenceIdeal : Cert.Pre_finite_queries_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys_KernelIdeal [hKernelIdeal : Cert.KernelIdeal.Facts] [hPre_finite_queries_keys_KernelIdeal : Cert.Pre_finite_queries_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys_ReferenceIdeal [hReferenceIdeal : Cert.ReferenceIdeal.Facts] [hPre_finite_queries_keys_ReferenceIdeal : Cert.Pre_finite_queries_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_keys_KernelIdeal [hKernelIdeal : Cert.KernelIdeal.Facts] [hReferenceIdeal : Cert.ReferenceIdeal.Facts] [hPre_finite_queries_keys_KernelIdeal : Cert.Pre_finite_queries_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2, 4] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨4, ![2, 256, 8, 64]⟩ ⟨4, ![2, 512, 8, 64]⟩ (Layout.meshBlock [2, 2, 4] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_keys_KernelIdeal : Cert.Pre_finite_queries_keys_KernelIdeal.Facts) (hPre_finite_queries_keys_ReferenceIdeal : Cert.Pre_finite_queries_keys_ReferenceIdeal.Facts),
    quiescent_Kernel (hKernel := hKernel)
    ∧ quiescent_KernelIdeal (hKernelIdeal := hKernelIdeal)
    ∧ quiescent_KernelIdeal_pre_finite_queries_keys_KernelIdeal (hKernelIdeal := hKernelIdeal) (hPre_finite_queries_keys_KernelIdeal := hPre_finite_queries_keys_KernelIdeal)
    ∧ quiescent_ReferenceIdeal (hReferenceIdeal := hReferenceIdeal)
    ∧ quiescent_ReferenceIdeal_pre_finite_queries_keys_ReferenceIdeal (hReferenceIdeal := hReferenceIdeal) (hPre_finite_queries_keys_ReferenceIdeal := hPre_finite_queries_keys_ReferenceIdeal)
    ∧ preserves_Kernel_KernelIdeal
    ∧ algebraic_KernelIdeal_ReferenceIdeal_pre_finite_queries_keys_KernelIdeal (hKernelIdeal := hKernelIdeal) (hReferenceIdeal := hReferenceIdeal) (hPre_finite_queries_keys_KernelIdeal := hPre_finite_queries_keys_KernelIdeal)
-- ==== Pre_finite_queries_keys_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)

variable [Facts]

def fn {F : FTy → Type} [FloatOps F] (main_arg0 : FVec F S2x256x8x64 .f32) (main_arg1 : FVec F S2x256x8x64 .f32) (main_arg2 : FVec F S2x256x8x64 .f32) : IVec S2x256x8x64 1 × IVec S2x256x8x64 1 :=
  let main_v0 : FVec F S2x256x8x64 .f32 := Host.absf main_arg0
  let main_cst : FVec F S_ .f32 := constant S_ .f32 0x7F800000#32
  let main_v1 : FVec F S2x256x8x64 .f32 := broadcastInDim S2x256x8x64 ![] bcast_S_S2x256x8x64 main_cst
  let main_v2 : IVec S2x256x8x64 1 := cmpf .olt main_v0 main_v1
  let main_v3 : FVec F S2x256x8x64 .f32 := Host.absf main_arg1
  let main_cst_0 : FVec F S_ .f32 := constant S_ .f32 0x7F800000#32
  let main_v4 : FVec F S2x256x8x64 .f32 := broadcastInDim S2x256x8x64 ![] bcast_S_S2x256x8x64 main_cst_0
  let main_v5 : IVec S2x256x8x64 1 := cmpf .olt main_v3 main_v4
  (main_v2, main_v5)
-- ==== Pre_finite_queries_keys_ReferenceIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .f32) (main_arg1 : FVec F S2x512x8x64 .f32) (main_arg2 : FVec F S2x512x8x64 .f32) : IVec S2x512x8x64 1 × IVec S2x512x8x64 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_v3 : FVec F S2x512x8x64 .f32 := Host.absf main_arg1
  let main_cst_0 : FVec F S_ .f32 := constant S_ .f32 0x7F800000#32
  let main_v4 : FVec F S2x512x8x64 .f32 := broadcastInDim S2x512x8x64 ![] bcast_S_S2x512x8x64 main_cst_0
  let main_v5 : IVec S2x512x8x64 1 := cmpf .olt main_v3 main_v4
  (main_v2, main_v5)
-- ==== Kernel.lean ====
abbrev S2x256x8x64 : Shape := ⟨4, ![2, 256, 8, 64]⟩
abbrev S2x8x64x256 : Shape := ⟨4, ![2, 8, 64, 256]⟩
abbrev S_ : Shape := ⟨0, ![]⟩
abbrev S2x2 : Shape := ⟨2, ![2, 2]⟩
abbrev S1x1 : Shape := ⟨2, ![1, 1]⟩
abbrev S1x4x64x256 : Shape := ⟨4, ![1, 4, 64, 256]⟩
abbrev S4x64x256 : Shape := ⟨3, ![4, 64, 256]⟩
abbrev S1x1x64x256 : Shape := ⟨4, ![1, 1, 64, 256]⟩
abbrev S64x256 : Shape := ⟨2, ![64, 256]⟩
abbrev S256x256 : Shape := ⟨2, ![256, 256]⟩
abbrev S256 : Shape := ⟨1, ![256]⟩
abbrev S1x256 : Shape := ⟨2, ![1, 256]⟩

abbrev nBuf : Space → Nat
  | .hbm => 15
  | .vmem => 6
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S2x8x64x256, .f32⟩
  | .hbm, ⟨4, _⟩ => ⟨S_, .f32⟩
  | .hbm, ⟨5, _⟩ => ⟨S2x8x64x256, .f32⟩
  | .hbm, ⟨6, _⟩ => ⟨S2x8x64x256, .f32⟩
  | .hbm, ⟨7, _⟩ => ⟨S2x8x64x256, .bf16⟩
  | .hbm, ⟨8, _⟩ => ⟨S2x8x64x256, .f32⟩
  | .hbm, ⟨9, _⟩ => ⟨S2x8x64x256, .bf16⟩
  | .hbm, ⟨10, _⟩ => ⟨S2x8x64x256, .f32⟩
  | .hbm, ⟨11, _⟩ => ⟨S2x8x64x256, .bf16⟩
  | .hbm, ⟨12, _⟩ => ⟨S2x8x64x256, .bf16⟩
  | .hbm, ⟨13, _⟩ => ⟨S2x256x8x64, .bf16⟩
  | .hbm, ⟨14, _⟩ => ⟨S2x256x8x64, .f32⟩
  | .local _ .vmem, ⟨0, _⟩ => ⟨S2x8x64x256, .bf16⟩
  | .local _ .vmem, ⟨1, _⟩ => ⟨S2x8x64x256, .bf16⟩
  | .local _ .vmem, ⟨2, _⟩ => ⟨S2x8x64x256, .bf16⟩
  | .local _ .vmem, ⟨3, _⟩ => ⟨S2x8x64x256, .bf16⟩
  | .local _ .vmem, ⟨4, _⟩ => ⟨S2x8x64x256, .bf16⟩
  | .local _ .vmem, ⟨5, _⟩ => ⟨S2x8x64x256, .bf16⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v17 : BitVec 32 := Scalar.muli v2 c8_i32_14
  let v18 : BitVec 32 := Scalar.addi c0_i32_15 v17
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_16 : BitVec 32 := 4#32
  let v19 : BitVec 32 := Scalar.muli v9 c4_i32_16
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v21 : BitVec 32 := Scalar.muli v8 c1_i32_17
  let v22 : BitVec 32 := Scalar.addi v20 v21
  v22.toNat
def k0_dev3 (d0 : Dev nD) : Nat :=
  let c0_i32_31 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_30 : BitVec 32 := 8#32
  let v31 : BitVec 32 := Scalar.muli v2 c8_i32_30
  let v32 : BitVec 32 := Scalar.addi c0_i32_31 v31
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_32 : BitVec 32 := 4#32
  let v33 : BitVec 32 := Scalar.muli v9 c4_i32_32
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v35 : BitVec 32 := Scalar.muli v8 c1_i32_33
  let v36 : BitVec 32 := Scalar.addi v34 v35
  v36.toNat
def k0_dev4 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v45 : BitVec 32 := Scalar.muli v2 c8_i32_46
  let v46 : BitVec 32 := Scalar.addi c0_i32_47 v45
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_48 : BitVec 32 := 4#32
  let v47 : BitVec 32 := Scalar.muli v9 c4_i32_48
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v49 : BitVec 32 := Scalar.muli v8 c1_i32_49
  let v50 : BitVec 32 := Scalar.addi v48 v49
  v50.toNat
def k0_dev5 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_62 : BitVec 32 := 8#32
  let v59 : BitVec 32 := Scalar.muli v2 c8_i32_62
  let v60 : BitVec 32 := Scalar.addi c0_i32_63 v59
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_64 : BitVec 32 := 4#32
  let v61 : BitVec 32 := Scalar.muli v9 c4_i32_64
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v63 : BitVec 32 := Scalar.muli v8 c1_i32_65
  let v64 : BitVec 32 := Scalar.addi v62 v63
  v64.toNat
def k0_dev6 (d0 : Dev nD) : Nat :=
  let c0_i32_79 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_78 : BitVec 32 := 8#32
  let v73 : BitVec 32 := Scalar.muli v2 c8_i32_78
  let v74 : BitVec 32 := Scalar.addi c0_i32_79 v73
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_80 : BitVec 32 := 4#32
  let v75 : BitVec 32 := Scalar.muli v9 c4_i32_80
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v77 : BitVec 32 := Scalar.muli v8 c1_i32_81
  let v78 : BitVec 32 := Scalar.addi v76 v77
  v78.toNat
def k0_dev7 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_94 : BitVec 32 := 8#32
  let v87 : BitVec 32 := Scalar.muli v2 c8_i32_94
  let v88 : BitVec 32 := Scalar.addi c0_i32_95 v87
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_96 : BitVec 32 := 4#32
  let v89 : BitVec 32 := Scalar.muli v9 c4_i32_96
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v91 : BitVec 32 := Scalar.muli v8 c1_i32_97
  let v92 : BitVec 32 := Scalar.addi v90 v91
  v92.toNat
def k0_dev8 (d0 : Dev nD) : Nat :=
  let c0_i32_111 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_110 : BitVec 32 := 8#32
  let v101 : BitVec 32 := Scalar.muli v2 c8_i32_110
  let v102 : BitVec 32 := Scalar.addi c0_i32_111 v101
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_112 : BitVec 32 := 4#32
  let v103 : BitVec 32 := Scalar.muli v9 c4_i32_112
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v105 : BitVec 32 := Scalar.muli v8 c1_i32_113
  let v106 : BitVec 32 := Scalar.addi v104 v105
  v106.toNat
def k0_dev9 (d0 : Dev nD) : Nat :=
  let c0_i32_127 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_126 : BitVec 32 := 8#32
  let v115 : BitVec 32 := Scalar.muli v2 c8_i32_126
  let v116 : BitVec 32 := Scalar.addi c0_i32_127 v115
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_128 : BitVec 32 := 4#32
  let v117 : BitVec 32 := Scalar.muli v9 c4_i32_128
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v119 : BitVec 32 := Scalar.muli v8 c1_i32_129
  let v120 : BitVec 32 := Scalar.addi v118 v119
  v120.toNat
abbrev stage0_0 : Fin 1 → Memref sig .tc .vmem S2x8x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x512x512, .f32⟩
  | .hbm, ⟨4, _⟩ => ⟨S_, .f32⟩
  | .hbm, ⟨5, _⟩ => ⟨S2x8x512x512, .f32⟩
  | .hbm, ⟨6, _⟩ => ⟨S2x8x512x512, .f32⟩
  | .hbm, ⟨7, _⟩ => ⟨S_, .f32⟩
  | .hbm, ⟨8, _⟩ => ⟨S2x8x512, .f32⟩
  | .hbm, ⟨9, _⟩ => ⟨S2x8x512x1, .f32⟩
  | .hbm, ⟨10, _⟩ => ⟨S2x8x512x512, .f32⟩
  | .hbm, ⟨11, _⟩ => ⟨S2x8x512x512, .f32⟩
  | .hbm, ⟨12, _⟩ => ⟨S2x8x512x512, .f32⟩
  | .hbm, ⟨13, _⟩ => ⟨S_, .f32⟩
  | .hbm, ⟨14, _⟩ => ⟨S2x8x512, .f32⟩
  | .hbm, ⟨15, _⟩ => ⟨S2x8x512x1, .f32⟩
  | .hbm, ⟨16, _⟩ => ⟨S2x8x512x512, .f32⟩
  | .hbm, ⟨17, _⟩ => ⟨S2x8x512x512, .f32⟩
  | .hbm, ⟨18, _⟩ => ⟨S2x8x64x512, .f32⟩
  | .hbm, ⟨19, _⟩ => ⟨S2x512x8x64, .f32⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Heads.lean ====
/-
  What the kernel computes for one head, as a function of the five [64, 256] slabs it loads: the queries, the own keys and
  values, the partner's keys and values. Softmax attention over 512 keys taken in two halves of 256, each half with its own
  running maximum, sum and weighted values, merged at the end.
-/
module

public import proofs.«01_k».proof.Proof.Gen.KernelIdeal
public import proofs.«01_k».proof.Proof.Gen.KernelIdeal.Skeleton
public import Idealize.ShloMosaic.Lib.ValueIdxCore

@[expose] public section

noncomputable section

namespace Cert.Exchange

open Cert.KernelIdeal Cert.KernelIdeal.Gen

open Idealize.ShloMosaic Idealize.ShloMosaic.ValueIdx

variable {F : FTy → Type} [FloatOps F]

/-- The contents of a whole [2, 8, 64, 256] block: batch entry, head, feature, position. -/
abbrev Blk (F : FTy → Type) [FloatOps F] : Type := S2x8x64x256.Idx → Elt F .bf16
/-- The contents of one head of it. -/
abbrev Slab (F : FTy → Type) [FloatOps F] : Type := Vec F S1x1x64x256 .bf16

/-- Head h of batch entry b. -/
def slab (X : Blk F) (b h : ℕ) (hin : ∀ a, (![b, h, 0, 0] : Fin 4 → ℕ) a + S1x1x64x256.size a ≤ S2x8x64x256.size a) : Slab F :=
  fun i => X ((Rect.unit (s := S2x8x64x256) ![b, h, 0, 0] S1x1x64x256.size hin).emb i)

theorem slab_inb (b : Fin 2) (h : Fin 8) : ∀ a, (![b.val, h.val, 0, 0] : Fin 4 → ℕ) a + S1x1x64x256.size a ≤ S2x8x64x256.size a := by
  revert b h; decide

section Half
variable (q k v : Slab F)

/-- The scores of 256 keys (rows) against 256 queries (columns). -/
def score : FVec F S256x256 .f32 :=
  matmul dot_S64x256_S64x256_S256x256_0_0_1_1_n_n none (shapeCast S64x256 k shapeCasts_S1x1x64x256_S64x256)
    (shapeCast S64x256 q shapeCasts_S1x1x64x256_S64x256) (constant S256x256 .f32 0x00000000#32)
/-- Each query's largest score. -/
def rowMax : FVec F S1x256 .f32 :=
  shapeCast S1x256 (multiReduction .maximumf [0] S256 (score q k) 0xFF800000#32 reduces_S256x256_S256 (.inl rfl) rfl) shapeCasts_S256_S1x256
/-- The exponentials of the scores less the largest. -/
def weights : FVec F S256x256 .f32 :=
  exp (subf (score q k) (broadcastTo S256x256 (rowMax q k) broadcasts_S1x256_S256x256))
/-- Their sum per query. -/
def rowSum : FVec F S1x256 .f32 :=
  shapeCast S1x256 (multiReduction .add [0] S256 (weights q k) 0x00000000#32 reduces_S256x256_S256 (.inl rfl) rfl) shapeCasts_S256_S1x256
/-- The values weighted by them. -/
def mixed : FVec F S64x256 .f32 :=
  matmul dot_S64x256_S256x256_S64x256_1_0_0_1_n_n none (shapeCast S64x256 v shapeCasts_S1x1x64x256_S64x256)
    (truncf .bf16 (weights q k) bitsLt_bf16_f32) (constant S64x256 .f32 0x00000000#32)

end Half

section Merge
variable (m1 l1 m2 l2 : FVec F S1x256 .f32) (o1 o2 : FVec F S64x256 .f32)

/-- Two halves' maxima, sums and weighted values merged into the normalised result. -/
def merge : FVec F S64x256 .f32 :=
  divf
    (addf (mulf o1 (broadcastTo S64x256 (exp (subf m1 (maximumf m1 m2))) broadcasts_S1x256_S64x256))
      (mulf o2 (broadcastTo S64x256 (exp (subf m2 (maximumf m1 m2))) broadcasts_S1x256_S64x256)))
    (broadcastTo S64x256 (addf (mulf l1 (exp (subf m1 (maximumf m1 m2)))) (mulf l2 (exp (subf m2 (maximumf m1 m2))))) broadcasts_S1x256_S64x256)

end Merge

/-- The head's result before the last rounding. -/
def headF32 (q k v kp vp : Slab F) : FVec F S64x256 .f32 :=
  merge (rowMax q k) (rowSum q k) (rowMax q kp) (rowSum q kp) (mixed q k v) (mixed q kp vp)
/-- The head's result, as it is stored. -/
def headOut (q k v kp vp : Slab F) : Slab F :=
  shapeCast S1x1x64x256 (truncf .bf16 (headF32 q k v kp vp) bitsLt_bf16_f32) shapeCasts_S64x256_S1x1x64x256

/-- The whole result of a device, from its own blocks and its partner's. -/
def outBlk (q k v kp vp : Blk F) : Blk F := fun x =>
  headOut (slab q (x 0).val (x 1).val (slab_inb (x 0) (x 1))) (slab k (x 0).val (x 1).val (slab_inb (x 0) (x 1)))
    (slab v (x 0).val (x 1).val (slab_inb (x 0) (x 1))) (slab kp (x 0).val (x 1).val (slab_inb (x 0) (x 1)))
    (slab vp (x 0).val (x 1).val (slab_inb (x 0) (x 1))) (ix4 0 0 (x 2) (x 3))

end Cert.Exchange
end
-- ==== Proof.Protocol.lean ====
/-
  The exchange between a device and its partner, written down as a schedule of semaphore rounds.

  The mesh is x=2, y=2, z=4 and the exchange runs along y: device c talks only to `pt c`, the device with the other y
  coordinate. Every device
    1. signals its partner's barrier semaphore and waits for its own (so each knows that the other's scratch may be written);
    2. starts eight remote copies, `j : Fin 8`, which bring four heads of its K block (even j) or V block (odd j) into the
       partner's K or V scratch. Copy `j` raises `sendS j` on the sender and `recvS j` on the receiver;
    3. works on its own keys while the copies fly, waits on the eight receive semaphores in order, and finally on the eight
       send semaphores.

  Each semaphore sees one round with one duty. Paid to the barrier: the partner's eight scratch chunks. Paid to
  `recvS j`: the own scratch chunk `j`, at the partner's data. Paid to `sendS j`: the right half share of the source chunk
  `j`; the left half stays with the body, which reads its own K and V blocks while the copies are in flight.
-/
module

public import proofs.«01_k».proof.Proof.Heads
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- Two copies of the rounds resource: the pipeline library's and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The partner -/

set_option backward.proofsInPublic true in
/-- The device with the other y coordinate. -/
def pt (c : Dev nD) : Dev nD := ⟨(8 * (c.val / 8) + c.val % 4 + 4) - 4 * ((c.val / 4) % 2), by revert c; decide⟩

theorem pt_pt (c : Dev nD) : pt (pt c) = c := by revert c; decide
/-- Partners, as a permutation of the devices. -/
def swap : Dev nD ≃ Dev nD := ⟨pt, pt, pt_pt, pt_pt⟩

theorem dev1_eq (c : Dev nD) : (⟨k0_dev1 c, k0_dev1_lt c⟩ : Dev nD) = pt c := Fin.ext (k0_dev1_eq c)
theorem dev2_eq (c : Dev nD) : (⟨k0_dev2 c, k0_dev2_lt c⟩ : Dev nD) = pt c := Fin.ext (k0_dev2_eq c)
theorem dev3_eq (c : Dev nD) : (⟨k0_dev3 c, k0_dev3_lt c⟩ : Dev nD) = pt c := Fin.ext (k0_dev3_eq c)
theorem dev4_eq (c : Dev nD) : (⟨k0_dev4 c, k0_dev4_lt c⟩ : Dev nD) = pt c := Fin.ext (k0_dev4_eq c)
theorem dev5_eq (c : Dev nD) : (⟨k0_dev5 c, k0_dev5_lt c⟩ : Dev nD) = pt c := Fin.ext (k0_dev5_eq c)
theorem dev6_eq (c : Dev nD) : (⟨k0_dev6 c, k0_dev6_lt c⟩ : Dev nD) = pt c := Fin.ext (k0_dev6_eq c)
theorem dev7_eq (c : Dev nD) : (⟨k0_dev7 c, k0_dev7_lt c⟩ : Dev nD) = pt c := Fin.ext (k0_dev7_eq c)
theorem dev8_eq (c : Dev nD) : (⟨k0_dev8 c, k0_dev8_lt c⟩ : Dev nD) = pt c := Fin.ext (k0_dev8_eq c)
theorem dev9_eq (c : Dev nD) : (⟨k0_dev9 c, k0_dev9_lt c⟩ : Dev nD) = pt c := Fin.ext (k0_dev9_eq c)

/-! ## Semaphores and memrefs of copy j -/

abbrev barS : Sem sig := (SemArray.scalar (sig.barrier 0 rfl) : Sems sig S_).sem

/-- Even copies move K, odd ones V. -/
def isV (j : Fin 8) : Bool := j.val % 2 == 1

/-- The send semaphore of copy j. -/
def sendS (j : Fin 8) : DmaSem sig := ⟨4 + 8 * (j.val % 2) + j.val / 2, by revert j; decide⟩
/-- The receive semaphore of copy j. -/
def recvS (j : Fin 8) : DmaSem sig := ⟨8 + 8 * (j.val % 2) + j.val / 2, by revert j; decide⟩

/-- Which copy a DMA semaphore belongs to, and on which end: `(false, j)` is the sending end of copy j. -/
def semKind (s : DmaSem sig) : Option (Bool × Fin 8) :=
  match (s : Fin 20).val with
  | 4 => some (false, 0) | 5 => some (false, 2) | 6 => some (false, 4) | 7 => some (false, 6)
  | 8 => some (true, 0) | 9 => some (true, 2) | 10 => some (true, 4) | 11 => some (true, 6)
  | 12 => some (false, 1) | 13 => some (false, 3) | 14 => some (false, 5) | 15 => some (false, 7)
  | 16 => some (true, 1) | 17 => some (true, 3) | 18 => some (true, 5) | 19 => some (true, 7)
  | _ => none

theorem semKind_send (j : Fin 8) : semKind (sendS j) = some (false, j) := by revert j; decide
theorem semKind_recv (j : Fin 8) : semKind (recvS j) = some (true, j) := by revert j; decide

abbrev barCell (c : Dev nD) : GSem nD τ sig := ((c : Thread nD τ), .reg barS)
abbrev sendCell (c : Dev nD) (j : Fin 8) : GSem nD τ sig := ((c : Thread nD τ), .dma (sendS j))
abbrev recvCell (c : Dev nD) (j : Fin 8) : GSem nD τ sig := ((c : Thread nD τ), .dma (recvS j))

theorem chunk_inb (j : Fin 8) : ∀ a, (![j.val / 4, 4 * (j.val / 2 % 2), 0, 0] : Fin 4 → ℕ) a + S1x4x64x256.size a ≤ S2x8x64x256.size a := by
  revert j; decide

/-- Four heads of one batch entry: what copy j reads and writes. -/
abbrev chunkR (j : Fin 8) : Rect S2x8x64x256 :=
  Rect.unit (s := S2x8x64x256) ![j.val / 4, 4 * (j.val / 2 % 2), 0, 0] S1x4x64x256.size (chunk_inb j)
/-- That chunk of a whole buffer, as the kernel names it. -/
abbrev chunk (M : Memref sig .tc .vmem S2x8x64x256 .bf16) (j : Fin 8) : Memref sig .tc .vmem S4x64x256 .bf16 :=
  (M.slice (chunkR j) (fun _ => rfl)).squeeze S4x64x256 squeezes_S1x4x64x256_S4x64x256

/-- The staged K block (false) and V block (true). -/
abbrev srcBase : Bool → Memref sig .tc .vmem S2x8x64x256 .bf16 | false => Memref.whole cc0_stg1_0 | true => Memref.whole cc0_stg2_0
/-- The scratch for the partner's K block (false) and V block (true). -/
abbrev dstBase : Bool → Memref sig .tc .vmem S2x8x64x256 .bf16 | false => Memref.whole cc0_scratch0 | true => Memref.whole cc0_scratch1
abbrev srcM (j : Fin 8) : Memref sig .tc .vmem S4x64x256 .bf16 := chunk (srcBase (isV j)) j
abbrev dstM (j : Fin 8) : Memref sig .tc .vmem S4x64x256 .bf16 := chunk (dstBase (isV j)) j

/-- What one copy credits its semaphores by. -/
def N : ℕ := (chunk (Memref.whole cc0_scratch0) 0).view.dmaCredit
theorem N_pos : 0 < N := View.dmaCredit_pos _ (by decide)
theorem dst_credit (j : Fin 8) : (dstM j).view.dmaCredit = N := by
  show (chunk (dstBase (isV j)) j).view.dmaCredit = N
  cases isV j <;> rfl
theorem src_credit (j : Fin 8) : (srcM j).view.dmaCredit = N := by
  show (chunk (srcBase (isV j)) j).view.dmaCredit = N
  cases isV j <;> rfl

variable (kB vB : Dev nD → Blk F)

/-- What device c's staged K (V) block holds. -/
def srcC (c : Dev nD) : (b : Bool) → Buf (Elt F) ((srcBase b).view.loc (c : Thread nD τ))
  | false => kB c
  | true => vB c
/-- What device c's scratch ends up holding: its partner's K (V) block. -/
def dstC (c : Dev nD) : (b : Bool) → Buf (Elt F) ((dstBase b).view.loc (c : Thread nD τ))
  | false => kB (pt c)
  | true => vB (pt c)

/-- Copy j's source on device c, at the right half share. -/
def srcPts (c : Dev nD) (j : Fin 8) : sProp 𝕄 :=
  (srcM j).view.loc (c : Thread nD τ) ↦[(srcM j).view.set]{fullShare.right} srcC kB vB c (isV j)
/-- Copy j's destination on device c, at f. -/
def dstPts (c : Dev nD) (j : Fin 8) (f : Buf (Elt F) ((dstM j).view.loc (c : Thread nD τ))) : sProp 𝕄 :=
  (dstM j).view.loc (c : Thread nD τ) ↦[(dstM j).view.set]{fullShare} f

/-- What a copy into device c's partner writes there: the copied chunk of the source, in place. -/
theorem landed (c : Dev nD) (j : Fin 8) (fd : Buf (Elt F) ((dstM j).view.loc (pt c : Thread nD τ))) :
    ((dstM j).view.loc (pt c : Thread nD τ) ↦[(dstM j).view.set]{fullShare}
        ((dstM j).view.write (Elt F) fd ((srcM j).view.read (Elt F) (srcC kB vB c (isV j))) Finset.univ) : sProp 𝕄)
      = dstPts (pt c) j (dstC kB vB (pt c) (isV j)) := by
  unfold dstPts
  refine pointsTo_congr ?_
  intro i hi
  obtain ⟨x, -, rfl⟩ := Finset.mem_map.mp hi
  rw [View.write_emb_of_mem _ _ (Finset.mem_univ x)]
  revert fd x
  show ∀ (fd : Buf (Elt F) ((chunk (dstBase (isV j)) j).view.loc (pt c : Thread nD τ))) x, _ → _
  unfold srcC dstC srcM dstM
  cases isV j <;> intro fd x _ <;> dsimp only <;> rw [pt_pt] <;> rfl

/-! ## The schedule -/

/-- Paid to device c's barrier semaphore by its partner: the partner's scratch chunks, each with the word that the partner's
    receive semaphore is at its first round. -/
def barPay (c : Dev nD) : sProp 𝕄 :=
  bigSep Finset.univ fun j : Fin 8 => iprop((∃ f, dstPts (pt c) j f) ∗ reached ER (recvCell (pt c) j) 0)
/-- Paid to receive semaphore j: the own scratch chunk, holding the partner's data. -/
def recvPay (c : Dev nD) (j : Fin 8) : sProp 𝕄 := dstPts c j (dstC kB vB c (isV j))

/-- The semaphores the exchange uses. -/
def isCell : SemLoc sig → Bool
  | .reg _ => true
  | .dma s => (semKind s).isSome

/-- What is paid to a DMA semaphore that plays the part `o`. -/
def dmaPay (c : Dev nD) : Option (Bool × Fin 8) → sProp 𝕄
  | some (false, j) => srcPts kB vB c j
  | some (true, j) => recvPay kB vB c j
  | none => iprop(emp)

/-- What is paid to a semaphore of device c. -/
def pay (c : Dev nD) : SemLoc sig → sProp 𝕄
  | .reg _ => barPay c
  | .dma s => dmaPay kB vB c (semKind s)

/-- The unit of a payment: 1 for the barrier, a chunk's credit for a copy. -/
def amt : SemLoc sig → ℕ
  | .reg _ => 1
  | .dma _ => N

/-- One round with one duty on every semaphore of the exchange. -/
def rd : Rounds.Schedule (GSem nD τ sig) Unit 𝕄 where
  duties g r := if r = 0 ∧ g.1.2 = .tc ∧ isCell g.2 = true then {()} else ∅
  unitless _ := False
  amount g _ _ := amt g.2
  payload g _ _ := pay kB vB g.1.1 g.2
  amount_pos g _ _ _ := by
    show 0 < amt g.2
    rcases g.2 with s | s
    · exact Nat.one_pos
    · exact N_pos

instance rd_payload_storable (g : GSem nD τ sig) (r : ℕ) (d : Unit) :
    BI.Storable (upEmb : UEmb _ 𝕄) ((rd (F := F) kB vB).payload g r d) := by
  show BI.Storable upEmb (pay kB vB g.1.1 g.2)
  rcases g.2 with s | s
  · show BI.Storable upEmb (barPay g.1.1)
    unfold barPay dstPts
    infer_instance
  · show BI.Storable upEmb (dmaPay kB vB g.1.1 (semKind s))
    rcases semKind s with _ | ⟨_ | _, j⟩
    · show BI.Storable upEmb iprop(emp); infer_instance
    · show BI.Storable upEmb (srcPts kB vB g.1.1 j); unfold srcPts; infer_instance
    · show BI.Storable upEmb (recvPay kB vB g.1.1 j); unfold recvPay dstPts; infer_instance

section Sched

variable (c : Dev nD) (j : Fin 8)

theorem duties_bar : (rd (F := F) kB vB).duties (barCell c) 0 = {()} := by dsimp only [rd]; exact if_pos ⟨rfl, rfl, rfl⟩
theorem duties_send : (rd (F := F) kB vB).duties (sendCell c j) 0 = {()} := by
  dsimp only [rd]; exact if_pos ⟨rfl, rfl, by show (semKind (sendS j)).isSome = true; rw [semKind_send]; rfl⟩
theorem duties_recv : (rd (F := F) kB vB).duties (recvCell c j) 0 = {()} := by
  dsimp only [rd]; exact if_pos ⟨rfl, rfl, by show (semKind (recvS j)).isSome = true; rw [semKind_recv]; rfl⟩
theorem duties_later (g : GSem nD τ sig) : ∀ r, 1 ≤ r → (rd (F := F) kB vB).duties g r = ∅ :=
  fun r hr => by dsimp only [rd]; exact if_neg (fun h => by omega)

theorem payload_bar (u : Unit) : (rd (F := F) kB vB).payload (barCell c) 0 u = barPay c := rfl
theorem payload_send (u : Unit) : (rd (F := F) kB vB).payload (sendCell c j) 0 u = srcPts kB vB c j := by
  show dmaPay kB vB c (semKind (sendS j)) = _; rw [semKind_send]; rfl
theorem payload_recv (u : Unit) : (rd (F := F) kB vB).payload (recvCell c j) 0 u = recvPay kB vB c j := by
  show dmaPay kB vB c (semKind (recvS j)) = _; rw [semKind_recv]; rfl

theorem expect_bar : (rd (F := F) kB vB).expect (barCell c) 0 = 1 := by
  unfold Schedule.expect Schedule.amountOf; rw [duties_bar, Finset.sum_singleton]; rfl
theorem expect_send : (rd (F := F) kB vB).expect (sendCell c j) 0 = N := by
  unfold Schedule.expect Schedule.amountOf; rw [duties_send, Finset.sum_singleton]; rfl
theorem expect_recv : (rd (F := F) kB vB).expect (recvCell c j) 0 = N := by
  unfold Schedule.expect Schedule.amountOf; rw [duties_recv, Finset.sum_singleton]; rfl

theorem rest_bar : bigSep ((rd (F := F) kB vB).duties (barCell c) 0 \ ∅) (fun u => (rd (F := F) kB vB).payload (barCell c) 0 u) = barPay c := by
  rw [Finset.sdiff_empty, duties_bar, bigSep_singleton, payload_bar]
theorem rest_send : bigSep ((rd (F := F) kB vB).duties (sendCell c j) 0 \ ∅) (fun u => (rd (F := F) kB vB).payload (sendCell c j) 0 u) = srcPts kB vB c j := by
  rw [Finset.sdiff_empty, duties_send, bigSep_singleton, payload_send]
theorem rest_recv : bigSep ((rd (F := F) kB vB).duties (recvCell c j) 0 \ ∅) (fun u => (rd (F := F) kB vB).payload (recvCell c j) 0 u) = recvPay kB vB c j := by
  rw [Finset.sdiff_empty, duties_recv, bigSep_singleton, payload_recv]

end Sched

/-! ## Debts and levels -/

/-- The copies not yet started, when n of them are: their receive credits, which device c owes its partner. -/
def owed (c : Dev nD) (n : ℕ) : CellTallies nD τ sig Unit :=
  (Finset.univ.filter fun j : Fin 8 => n ≤ j.val).sum fun j => tallyAt (recvCell (pt c) j) () N
/-- At the start of the kernel a device also owes the partner's barrier unit. -/
def O₀ (c : Dev nD) : CellTallies nD τ sig Unit := owed c 0 + tallyAt (barCell (pt c)) () 1

theorem owed_step (c : Dev nD) (j : Fin 8) : owed c j.val = owed c (j.val + 1) + tallyAt (recvCell (pt c) j) () N := by
  unfold owed
  rw [show (Finset.univ.filter fun i : Fin 8 => j.val ≤ i.val) = insert j (Finset.univ.filter fun i : Fin 8 => j.val + 1 ≤ i.val) by
    revert j; decide, Finset.sum_insert (by simp), add_comm]
theorem owed_done (c : Dev nD) : owed c 8 = 0 := by
  unfold owed
  rw [show (Finset.univ.filter fun i : Fin 8 => 8 ≤ i.val) = ∅ by decide, Finset.sum_empty]

def L (g : GSem nD τ sig) : Finset Unit := if g.1.2 = .tc then {()} else ∅
/-- Barriers at level 1, receive semaphores at 2, the rest at 0: a device waits at its barrier while it owes receive credits. -/
def lv (g : GSem nD τ sig) (_ : Unit) : ℕ := match g.2 with
  | .reg _ => 1
  | .dma s => match semKind s with
    | some (true, _) => 2
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (j : Fin 8) : lv (recvCell c j) () = 2 := by
  show (match semKind (recvS j) with | some (true, _) => 2 | _ => 0) = 2
  rw [semKind_recv]

/-- What the receive debts are owed to. -/
theorem owed_pos {c : Dev nD} {n : ℕ} {g : GSem nD τ sig} {u : Unit} (h : 0 < owed c n g u) : ∃ j, g = recvCell (pt c) j := by
  by_contra hne
  push Not at hne
  refine absurd h (Nat.not_lt.mpr (Nat.le_of_eq ?_))
  unfold owed
  rw [Finset.sum_apply, Finsupp.finset_sum_apply]
  refine Finset.sum_eq_zero fun j _ => ?_
  rw [tallyAt_apply, if_neg (fun h => hne j h.1)]

theorem mayWait_bar (c : Dev nD) : (levAts L lv : sProp 𝕄) ⊢ MayWait (c : Thread nD τ) (.reg barS) () (owed c 0) :=
  MayOwe.of_cut (L := L) (lev := lv) 1 (fun p hp => by rw [Finset.mem_singleton.mp hp, L_tc]; exact Finset.mem_singleton_self _)
    (fun g u hg => by
      obtain ⟨j, rfl⟩ := owed_pos hg
      rw [L_tc]; exact Finset.mem_singleton_self _)
    (fun p hp => by rw [Finset.mem_singleton.mp hp]; exact le_refl 1)
    (fun g u hg => by
      obtain ⟨j, rfl⟩ := owed_pos hg
      rw [lv_recv]; decide)

/-! ## The ghost state of one device -/

/-- The invariants device c opens, at the names `K` they were allocated at. -/
def invs (K : GSem nD τ sig → ℕ) (c : Dev nD) : sProp 𝕄 :=
  iprop(cellInv ER (rd kB vB) (K (barCell c)) (barCell c) ∗ cellInv ER (rd kB vB) (K (barCell (pt c))) (barCell (pt c))
    ∗ bigSep Finset.univ fun j : Fin 8 => iprop(cellInv ER (rd kB vB) (K (sendCell c j)) (sendCell c j)
        ∗ cellInv ER (rd kB vB) (K (recvCell c j)) (recvCell c j)
        ∗ cellInv ER (rd kB vB) (K (recvCell (pt c) j)) (recvCell (pt c) j)))

instance invs_persistent (K : GSem nD τ sig → ℕ) (c : Dev nD) : BI.Persistent (invs kB vB K c) := by unfold invs; infer_instance

/-- What device c carries from the launch to the kernel: the invariants, its place on its barrier, the right to open its send
    and receive semaphores, and the tokens of the seventeen payments it makes. -/
def ghost (K : GSem nD τ sig → ℕ) (c : Dev nD) : sProp 𝕄 :=
  iprop(invs kB vB K c ∗ atPos ER (barCell c) 0 ∅ 0 ∗ reached ER (barCell (pt c)) 0 ∗ dutyTok ER (barCell (pt c)) 0 ()
    ∗ bigSep Finset.univ fun j : Fin 8 => iprop(openTok ER (sendCell c j) ∗ openTok ER (recvCell c j)
        ∗ dutyTok ER (sendCell c j) 0 () ∗ dutyTok ER (recvCell (pt c) j) 0 ()))

/-- The credits device c waits with. -/
def creds (c : Dev nD) : sProp 𝕄 :=
  iprop(cred (tallyAt (barCell c) () 1) ∗ bigSep Finset.univ fun j : Fin 8 => cred (tallyAt (recvCell c j) () N))

/-- Ghost state, credits and the generator register: what rides from the launch to the kernel. -/
def start (c : Dev nD) : sProp 𝕄 := iprop((∃ K, ghost kB vB K c) ∗ creds c ∗ ∃ r, prngReg c r)

/-- The ghost state once the send and receive semaphores are opened. -/
def opened (K : GSem nD τ sig → ℕ) (c : Dev nD) : sProp 𝕄 :=
  iprop(invs kB vB K c ∗ atPos ER (barCell c) 0 ∅ 0 ∗ reached ER (barCell (pt c)) 0 ∗ dutyTok ER (barCell (pt c)) 0 ()
    ∗ bigSep Finset.univ fun j : Fin 8 => iprop((atPos ER (sendCell c j) 0 ∅ 0 ∗ reached ER (sendCell c j) 0)
        ∗ (atPos ER (recvCell c j) 0 ∅ 0 ∗ reached ER (recvCell c j) 0)
        ∗ dutyTok ER (sendCell c j) 0 () ∗ dutyTok ER (recvCell (pt c) j) 0 ()))

/-- A semaphore past its one round closes: its counter is back in hand at zero. -/
theorem close (κ : ℕ) (g : GSem nD τ sig) :
    iprop(cellInv ER (rd kB vB) κ g ∗ atPos ER g (0 + 1) ∅ 0) ⊢ (|={Set.univ}=> semVal g 0 : sProp 𝕄) :=
  Rounds.cell_close ER (rd kB vB) (Set.mem_univ κ) id (duties_later kB vB g)

abbrev 𝒱₀ : Variants := Variants.none

end Cert.Exchange
end
-- ==== Proof.Steps.lean ====
/-
  The kernel's state between two memory operations, and one rule per kind of operation. The state counts: n copies started,
  r receive semaphores waited, d send semaphores waited, o heads of the result stored.
-/
module

public import proofs.«01_k».proof.Proof.Protocol

@[expose] public section

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev qM : Memref sig .tc .vmem S2x8x64x256 .bf16 := Memref.whole cc0_stg0_0
abbrev kM : Memref sig .tc .vmem S2x8x64x256 .bf16 := Memref.whole cc0_stg1_0
abbrev vM : Memref sig .tc .vmem S2x8x64x256 .bf16 := Memref.whole cc0_stg2_0
abbrev oM : Memref sig .tc .vmem S2x8x64x256 .bf16 := Memref.whole cc0_stg3_0
abbrev ckM : Memref sig .tc .vmem S2x8x64x256 .bf16 := Memref.whole cc0_scratch0
abbrev cvM : Memref sig .tc .vmem S2x8x64x256 .bf16 := Memref.whole cc0_scratch1

variable (qB kB vB : Dev nD → Blk F) (K : GSem nD τ sig → ℕ) (c : Dev nD)

/-- What device c's result is. -/
def outF : Blk F := outBlk (qB c) (kB c) (vB c) (kB (pt c)) (vB (pt c))

/-- The first o heads, in the order (batch entry, head), are done. -/
def OutOK (o : ℕ) (f : Blk F) : Prop := ∀ x : S2x8x64x256.Idx, 8 * (x 0).val + (x 1).val < o → f x = outF qB kB vB c x

/-- The sending side of copy j: done and its source back; in flight; or not started, with what its start needs. -/
def SendRes (n d : ℕ) (j : Fin 8) : sProp 𝕄 :=
  if j.val < d then iprop(cellInv ER (rd kB vB) (K (sendCell c j)) (sendCell c j) ∗ srcPts kB vB c j ∗ atPos ER (sendCell c j) (0 + 1) ∅ 0)
  else if j.val < n then iprop(cellInv ER (rd kB vB) (K (sendCell c j)) (sendCell c j) ∗ cred (tallyAt (sendCell c j) () N) ∗ atPos ER (sendCell c j) 0 ∅ 0)
  else iprop(cellInv ER (rd kB vB) (K (sendCell c j)) (sendCell c j) ∗ cellInv ER (rd kB vB) (K (recvCell (pt c) j)) (recvCell (pt c) j)
    ∗ reached ER (sendCell c j) 0 ∗ reached ER (recvCell (pt c) j) 0 ∗ atPos ER (sendCell c j) 0 ∅ 0
    ∗ dutyTok ER (sendCell c j) 0 () ∗ dutyTok ER (recvCell (pt c) j) 0 () ∗ srcPts kB vB c j ∗ ∃ fd, dstPts (pt c) j fd)

/-- The receiving side of copy j: waited, the partner's chunk in the scratch; or not yet. -/
def RecvRes (r : ℕ) (j : Fin 8) : sProp 𝕄 :=
  if j.val < r then iprop(cellInv ER (rd kB vB) (K (recvCell c j)) (recvCell c j) ∗ dstPts c j (dstC kB vB c (isV j)) ∗ atPos ER (recvCell c j) (0 + 1) ∅ 0)
  else iprop(cellInv ER (rd kB vB) (K (recvCell c j)) (recvCell c j) ∗ cred (tallyAt (recvCell c j) () N) ∗ atPos ER (recvCell c j) 0 ∅ 0)

/-- The state after the barrier, whose semaphore is done with. -/
def St (n r d o : ℕ) : sProp 𝕄 :=
  iprop(((qM.view.loc (c : Thread nD τ) ↦{fullShare} qB c) ∗ semVal (barCell c) 0)
    ∗ (kM.view.loc (c : Thread nD τ) ↦{fullShare.left} kB c)
    ∗ (vM.view.loc (c : Thread nD τ) ↦{fullShare.left} vB c)
    ∗ (∃ f, ⌜OutOK qB kB vB c o f⌝ ∗ (oM.view.loc (c : Thread nD τ) ↦{fullShare} f))
    ∗ (bigSep Finset.univ fun j => SendRes kB vB K c n d j)
    ∗ (bigSep Finset.univ fun j => RecvRes kB vB K c r j)
    ∗ ∃ W, owes (c : Thread nD τ) (owed c n) W)

variable {qB kB vB K c}
variable {α : Type} {Q : α → sProp (MT nD τ sig Unit (Elt F) ℕ UU ℕ)} {n r d o : ℕ}

/-- The program from a state on: `p` run by device c ends in Q. -/
abbrev exec {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Loads of the own blocks -/

section Loads
variable {b h : ℕ} {hin : ∀ a, (![b, h, 0, 0] : Fin 4 → ℕ) a + S1x1x64x256.size a ≤ S2x8x64x256.size a}
variable {k : Slab F → Prog (TpuEff nD τ sig (Elt F) Λ₀ .tc) α}

theorem step_q {hl} (hk : St qB kB vB K c n r d o ⊢ exec c (k (slab (qB c) b h hin)) Q) :
    St qB kB vB K c n r d o
      ⊢ exec c (.op (.load qM (Rect.unit (s := S2x8x64x256) ![b, h, 0, 0] S1x1x64x256.size hin).toLoadRect hl) k) Q := by
  unfold St
  iintro ⟨⟨Hq, Hb⟩, Hrest⟩
  iapply (wp_load 𝒱₀ (c : Thread nD τ) none Set.univ (m := qM) (Finset.subset_univ _)) $$ Hq
  iintro Hq
  iapply hk
  unfold St
  isplitl [Hq Hb]; · isplitl [Hq] <;> iassumption
  iexact Hrest

theorem step_k {hl} (hk : St qB kB vB K c n r d o ⊢ exec c (k (slab (kB c) b h hin)) Q) :
    St qB kB vB K c n r d o
      ⊢ exec c (.op (.load kM (Rect.unit (s := S2x8x64x256) ![b, h, 0, 0] S1x1x64x256.size hin).toLoadRect hl) k) Q := by
  unfold St
  iintro ⟨Hq, Hk, Hrest⟩
  iapply (wp_load 𝒱₀ (c : Thread nD τ) none Set.univ (m := kM) (Finset.subset_univ _)) $$ Hk
  iintro Hk
  iapply hk
  unfold St
  isplitl [Hq]; · iexact Hq
  isplitl [Hk]; · iexact Hk
  iexact Hrest

theorem step_v {hl} (hk : St qB kB vB K c n r d o ⊢ exec c (k (slab (vB c) b h hin)) Q) :
    St qB kB vB K c n r d o
      ⊢ exec c (.op (.load vM (Rect.unit (s := S2x8x64x256) ![b, h, 0, 0] S1x1x64x256.size hin).toLoadRect hl) k) Q := by
  unfold St
  iintro ⟨Hq, Hk, Hv, Hrest⟩
  iapply (wp_load 𝒱₀ (c : Thread nD τ) none Set.univ (m := vM) (Finset.subset_univ _)) $$ Hv
  iintro Hv
  iapply hk
  unfold St
  isplitl [Hq]; · iexact Hq
  isplitl [Hk]; · iexact Hk
  isplitl [Hv]; · iexact Hv
  iexact Hrest

/-- A load of the result block: its value, whatever it is, is dropped by the program. -/
theorem step_o {hl} (hk : ∀ w, St qB kB vB K c n r d o ⊢ exec c (k w) Q) :
    St qB kB vB K c n r d o
      ⊢ exec c (.op (.load oM (Rect.unit (s := S2x8x64x256) ![b, h, 0, 0] S1x1x64x256.size hin).toLoadRect hl) k) Q := by
  unfold St
  iintro ⟨Hq, Hk, Hv, ⟨%f, %hf, Ho⟩, Hrest⟩
  iapply (wp_load 𝒱₀ (c : Thread nD τ) none Set.univ (m := oM) (Finset.subset_univ _)) $$ Ho
  iintro Ho
  iapply (hk _)
  unfold St
  isplitl [Hq]; · iexact Hq
  isplitl [Hk]; · iexact Hk
  isplitl [Hv]; · iexact Hv
  isplitl [Ho]
  · iexists f
    isplitr; · ipureintro; exact hf
    iexact Ho
  iexact Hrest

/-! ## Loads of the partner's blocks, from the scratch -/

variable {j : Fin 8}

theorem slab_sub (hb : b = j.val / 4) (h0 : 4 * (j.val / 2 % 2) ≤ h) (h1 : h < 4 * (j.val / 2 % 2) + 4) :
    (Rect.unit (s := S2x8x64x256) ![b, h, 0, 0] S1x1x64x256.size hin).set ⊆ (chunkR j).set := by
  intro i hi
  rw [Rect.mem_set_unit] at hi ⊢
  intro a
  have := hi a
  fin_cases a <;> simp [S1x1x64x256, S1x4x64x256] at this ⊢ <;> omega

theorem setOn_sub (M : Ref sig .tc) (R : Rect M.ty.shape) (S : Finset M.ty.shape.Idx) (hS : R.set ⊆ S) :
    (View.whole M : View sig .tc _ _ _).setOn R.set ⊆ S := by
  have := View.set_slice (View.whole M : View sig .tc _ _ _) R
  show Finset.map (View.whole M : View sig .tc _ _ _).emb R.set ⊆ S
  rw [← this, View.set_slice_whole]
  exact hS

theorem ck_pts (hv : isV j = false) : (dstPts c j (dstC kB vB c (isV j)) : sProp 𝕄)
    = (ckM.view.loc (c : Thread nD τ) ↦[(chunkR j).set]{fullShare} kB (pt c)) := by
  unfold dstPts
  show ((chunk (dstBase (isV j)) j).view.loc (c : Thread nD τ) ↦[(chunk (dstBase (isV j)) j).view.set]{fullShare} dstC kB vB c (isV j)) = _
  rw [hv]
  refine congrArg (fun S => (ckM.view.loc (c : Thread nD τ) ↦[S]{fullShare} kB (pt c) : sProp 𝕄)) ?_
  exact (View.set_reshape _ _).trans (View.set_slice_whole _ _)

theorem cv_pts (hv : isV j = true) : (dstPts c j (dstC kB vB c (isV j)) : sProp 𝕄)
    = (cvM.view.loc (c : Thread nD τ) ↦[(chunkR j).set]{fullShare} vB (pt c)) := by
  unfold dstPts
  show ((chunk (dstBase (isV j)) j).view.loc (c : Thread nD τ) ↦[(chunk (dstBase (isV j)) j).view.set]{fullShare} dstC kB vB c (isV j)) = _
  rw [hv]
  refine congrArg (fun S => (cvM.view.loc (c : Thread nD τ) ↦[S]{fullShare} vB (pt c) : sProp 𝕄)) ?_
  exact (View.set_reshape _ _).trans (View.set_slice_whole _ _)

/-- A load from the K scratch after copy j landed: the partner's K. -/
theorem step_ck (j : Fin 8) (hv : isV j = false) (hj : j.val < r) (hb : b = j.val / 4) (h0 : 4 * (j.val / 2 % 2) ≤ h) (h1 : h < 4 * (j.val / 2 % 2) + 4)
    {hl} (hk : St qB kB vB K c n r d o ⊢ exec c (k (slab (kB (pt c)) b h hin)) Q) :
    St qB kB vB K c n r d o
      ⊢ exec c (.op (.load ckM (Rect.unit (s := S2x8x64x256) ![b, h, 0, 0] S1x1x64x256.size hin).toLoadRect hl) k) Q := by
  unfold St
  iintro ⟨Hq, Hk, Hv, Ho, HS, HR, HO⟩
  ihave H := (bigSep_univ_update (Φ := fun j => RecvRes kB vB K c r j) (Ψ := fun j => RecvRes kB vB K c r j) j (fun _ _ => rfl)) $$ HR
  unfold RecvRes
  rw [if_pos hj, ck_pts hv]
  icases H with ⟨⟨HI, Hd, Ha⟩, Hback⟩
  iapply (wp_load 𝒱₀ (c : Thread nD τ) none Set.univ (m := ckM) (S := (chunkR j).set)
    (setOn_sub cc0_scratch0 _ _ (slab_sub hb h0 h1))) $$ Hd
  iintro Hd
  iapply hk
  unfold St RecvRes
  isplitl [Hq]; · iexact Hq
  isplitl [Hk]; · iexact Hk
  isplitl [Hv]; · iexact Hv
  isplitl [Ho]; · iexact Ho
  isplitl [HS]; · iexact HS
  isplitr [HO]
  · iapply Hback
    isplitl [HI]; · iexact HI
    isplitl [Hd]; · iexact Hd
    iexact Ha
  iexact HO

/-- A load from the V scratch after copy j landed: the partner's V. -/
theorem step_cv (j : Fin 8) (hv : isV j = true) (hj : j.val < r) (hb : b = j.val / 4) (h0 : 4 * (j.val / 2 % 2) ≤ h) (h1 : h < 4 * (j.val / 2 % 2) + 4)
    {hl} (hk : St qB kB vB K c n r d o ⊢ exec c (k (slab (vB (pt c)) b h hin)) Q) :
    St qB kB vB K c n r d o
      ⊢ exec c (.op (.load cvM (Rect.unit (s := S2x8x64x256) ![b, h, 0, 0] S1x1x64x256.size hin).toLoadRect hl) k) Q := by
  unfold St
  iintro ⟨Hq, Hk, Hv, Ho, HS, HR, HO⟩
  ihave H := (bigSep_univ_update (Φ := fun j => RecvRes kB vB K c r j) (Ψ := fun j => RecvRes kB vB K c r j) j (fun _ _ => rfl)) $$ HR
  unfold RecvRes
  rw [if_pos hj, cv_pts hv]
  icases H with ⟨⟨HI, Hd, Ha⟩, Hback⟩
  iapply (wp_load 𝒱₀ (c : Thread nD τ) none Set.univ (m := cvM) (S := (chunkR j).set)
    (setOn_sub cc0_scratch1 _ _ (slab_sub hb h0 h1))) $$ Hd
  iintro Hd
  iapply hk
  unfold St RecvRes
  isplitl [Hq]; · iexact Hq
  isplitl [Hk]; · iexact Hk
  isplitl [Hv]; · iexact Hv
  isplitl [Ho]; · iexact Ho
  isplitl [HS]; · iexact HS
  isplitr [HO]
  · iapply Hback
    isplitl [HI]; · iexact HI
    isplitl [Hd]; · iexact Hd
    iexact Ha
  iexact HO

end Loads

/-! ## The store of one head -/

theorem out_inb (b h : ℕ) (hb : b < 2) (hh : h < 8) : ∀ a, (![b, h, 0, 0] : Fin 4 → ℕ) a + S1x1x64x256.size a ≤ S2x8x64x256.size a := by
  intro a; fin_cases a <;> simp [S1x1x64x256, S2x8x64x256] <;> omega

section Store
variable {b h : ℕ} {hin : ∀ a, (![b, h, 0, 0] : Fin 4 → ℕ) a + S1x1x64x256.size a ≤ S2x8x64x256.size a}

theorem head_lt (x : S2x8x64x256.Idx) : (x 0).val < 2 ∧ (x 1).val < 8 := ⟨(x 0).isLt, (x 1).isLt⟩

/-- Storing head (b, h) extends the finished prefix by one head. -/
theorem OutOK.store {f : Blk F} (hf : OutOK qB kB vB c (8 * b + h) f) (hh : h < 8) {w : Slab F}
    (hw : w = headOut (slab (qB c) b h hin) (slab (kB c) b h hin) (slab (vB c) b h hin) (slab (kB (pt c)) b h hin) (slab (vB (pt c)) b h hin)) :
    OutOK qB kB vB c (8 * b + h + 1)
      ((oM.access (Rect.unit (s := S2x8x64x256) ![b, h, 0, 0] S1x1x64x256.size hin) : View sig .tc _ _ _).write (Elt F) f w Finset.univ) := by
  intro x hx
  obtain ⟨h0, h1⟩ := head_lt x
  set R := Rect.unit (s := S2x8x64x256) ![b, h, 0, 0] S1x1x64x256.size hin with hR
  have hset : (oM.access R : View sig .tc _ _ _).setOn Finset.univ = R.set := View.set_slice_whole _ _
  by_cases hm : (x 0).val = b ∧ (x 1).val = h
  · obtain ⟨rfl, rfl⟩ := hm
    have hx' : x = (oM.access R : View sig .tc _ _ _).emb (ix4 0 0 (x 2) (x 3)) := by
      funext a
      apply Fin.ext
      fin_cases a
      · show (x 0).val = (x 0).val + 0; rfl
      · show (x 1).val = (x 1).val + 0; rfl
      · show (x 2).val = 0 + 1 * (x 2).val; omega
      · show (x 3).val = 0 + 1 * (x 3).val; omega
    have key : (oM.access R : View sig .tc _ _ _).write (Elt F) f w Finset.univ x = w (ix4 0 0 (x 2) (x 3)) := by
      conv_lhs => rw [hx']
      exact View.write_emb_of_mem (v := (oM.access R : View sig .tc _ _ _)) f w (Finset.mem_univ _)
    rw [key, hw]
    rfl
  · rw [View.write_of_not_mem]
    · refine hf x ?_
      by_contra hlt
      exact hm (by omega)
    · rw [hset, Rect.mem_set_unit]
      intro hc
      have c0 := hc 0
      have c1 := hc 1
      refine hm ⟨?_, ?_⟩
      · have : b ≤ (x 0).val ∧ (x 0).val < b + 1 := c0
        omega
      · have : h ≤ (x 1).val ∧ (x 1).val < h + 1 := c1
        omega

theorem step_store {k : PUnit → Prog (TpuEff nD τ sig (Elt F) Λ₀ .tc) α} {w : Slab F} {hx hm} (ho : o = 8 * b + h) (hh : h < 8)
    (hw : w = headOut (slab (qB c) b h hin) (slab (kB c) b h hin) (slab (vB c) b h hin) (slab (kB (pt c)) b h hin) (slab (vB (pt c)) b h hin))
    (hk : St qB kB vB K c n r d (o + 1) ⊢ exec c (k ⟨⟩) Q) :
    St qB kB vB K c n r d o
      ⊢ exec c (.op (.store oM (Rect.unit (s := S2x8x64x256) ![b, h, 0, 0] S1x1x64x256.size hin) w Finset.univ hx hm) k) Q := by
  unfold St
  iintro ⟨Hq, Hk, Hv, ⟨%f, %hf, Ho⟩, Hrest⟩
  iapply (wp_store 𝒱₀ (c : Thread nD τ) none Set.univ (m := oM)
    (r := Rect.unit (s := S2x8x64x256) ![b, h, 0, 0] S1x1x64x256.size hin) (S := Finset.univ) (f := f) (Finset.subset_univ _)) $$ Ho
  iintro Ho
  iapply hk
  unfold St
  isplitl [Hq]; · iexact Hq
  isplitl [Hk]; · iexact Hk
  isplitl [Hv]; · iexact Hv
  isplitl [Ho]
  · iexists _
    isplitr [Ho]; rotate_left
    · iexact Ho
    · ipureintro; subst ho; exact OutOK.store hf hh hw
  iexact Hrest

end Store

/-! ## Starting and waiting for copies -/

section Copies
variable {k : PUnit → Prog (TpuEff nD τ sig (Elt F) Λ₀ .tc) α}

/-- Copy j starts. -/
theorem step_send (j : Fin 8) (m : Dev nD) (hm : m = pt c) {src dst : Memref sig .tc .vmem S4x64x256 .bf16} {sS sR : DmaSem sig}
    (hsrc : src = srcM j) (hdst : dst = dstM j) (hS : sS = sendS j) (hR : sR = recvS j) {hsc hsw hdw hsem}
    (hk : St qB kB vB K c (j.val + 1) 0 0 0 ⊢ exec c (k ⟨⟩) Q) :
    St qB kB vB K c j.val 0 0 0
      ⊢ exec c (.op (.enqueueDma src (.remote (Dev.tc m : Thread nD τ) dst (.dma sS) hsc) (.dma sR) hsw hdw hsem) k) Q := by
  subst hm hsrc hdst hS hR
  unfold St
  iintro ⟨Hq, Hk, Hv, Ho, HS, HR, ⟨%W, HO⟩⟩
  ihave H := (bigSep_univ_update (Φ := fun i => SendRes kB vB K c j.val 0 i) (Ψ := fun i => SendRes kB vB K c (j.val + 1) 0 i) j
    (fun i hi => by
      have : i.val ≠ j.val := fun h => hi (Fin.ext h)
      have : (i.val < j.val + 1) = (i.val < j.val) := propext ⟨fun _ => by omega, fun _ => by omega⟩
      simp only [SendRes, this])) $$ HS
  have e1 : SendRes kB vB K c j.val 0 j = iprop(cellInv ER (rd kB vB) (K (sendCell c j)) (sendCell c j) ∗ cellInv ER (rd kB vB) (K (recvCell (pt c) j)) (recvCell (pt c) j)
    ∗ reached ER (sendCell c j) 0 ∗ reached ER (recvCell (pt c) j) 0 ∗ atPos ER (sendCell c j) 0 ∅ 0
    ∗ dutyTok ER (sendCell c j) 0 () ∗ dutyTok ER (recvCell (pt c) j) 0 () ∗ srcPts kB vB c j ∗ ∃ fd, dstPts (pt c) j fd) := by
    unfold SendRes; rw [if_neg (Nat.not_lt_zero _), if_neg (Nat.lt_irrefl _)]
  have e2 : SendRes kB vB K c (j.val + 1) 0 j = iprop(cellInv ER (rd kB vB) (K (sendCell c j)) (sendCell c j) ∗ cred (tallyAt (sendCell c j) () N) ∗ atPos ER (sendCell c j) 0 ∅ 0) := by
    unfold SendRes; rw [if_neg (Nat.not_lt_zero _), if_pos (Nat.lt_succ_self _)]
  rw [e1, e2]
  icases H with ⟨⟨#HI1, #HI2, #Hr1, #Hr2, Hat, Ht1, Ht2, Hsrc, ⟨%fd, Hdst⟩⟩, Hback⟩
  unfold srcPts dstPts
  iapply (Rounds.wp_send_pointsTo 𝒱₀ ER (rd kB vB) (c : Thread nD τ) none (c' := (pt c : Thread nD τ)) (src := srcM j) (dst := dstM j)
      (sS := .dma (sendS j)) (sem := .dma (recvS j)) (q := fullShare.right) (fs := srcC kB vB c (isV j)) (κ₁ := K (sendCell c j)) (κ₂ := K (recvCell (pt c) j))
      (r₁ := 0) (r₂ := 0) (d₁ := ()) (d₂ := ()) (fd := fd)
      (by rw [duties_send]; exact Finset.mem_singleton_self _) (by rw [duties_recv]; exact Finset.mem_singleton_self _)
      () () N (dst_credit j) rfl rfl (owed c (j.val + 1)) (owed_step c j) (W := W)
      (by rw [payload_send]; exact BI.Entails.refl _)
      (by rw [payload_recv, landed]; unfold recvPay; exact BI.Entails.refl _)) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply hk
  unfold St
  isplitl [Hq]; · iexact Hq
  isplitl [Hk]; · iexact Hk
  isplitl [Hv]; · iexact Hv
  isplitl [Ho]; · iexact Ho
  isplitl [Hback Hc Hat]
  · iapply Hback
    isplitr; · iexact HI1
    isplitl [Hc]; · iexact Hc
    iexact Hat
  isplitl [HR]; · iexact HR
  iexists W; iexact HO

/-- The wait for copy j's arrival, all copies being started. -/
theorem step_recv (j : Fin 8) {sR : DmaSem sig} (hR : sR = recvS j) {src dst : Memref sig .tc .vmem S4x64x256 .bf16}
    (hdst : dst = dstM j) {hsw hdw} (hk : St qB kB vB K c 8 (j.val + 1) d o ⊢ exec c (k ⟨⟩) Q) :
    St qB kB vB K c 8 j.val d o ⊢ exec c (.op (.waitDma2 sR src dst hsw hdw) k) Q := by
  subst hR hdst
  unfold St
  rw [owed_done]
  iintro ⟨Hq, Hk, Hv, Ho, HS, HR, ⟨%W, HO⟩⟩
  ihave H := (bigSep_univ_update (Φ := fun i => RecvRes kB vB K c j.val i) (Ψ := fun i => RecvRes kB vB K c (j.val + 1) i) j
    (fun i hi => by
      have : i.val ≠ j.val := fun h => hi (Fin.ext h)
      have : (i.val < j.val + 1) = (i.val < j.val) := propext ⟨fun _ => by omega, fun _ => by omega⟩
      simp only [RecvRes, this])) $$ HR
  have e1 : RecvRes kB vB K c j.val j = iprop(cellInv ER (rd kB vB) (K (recvCell c j)) (recvCell c j) ∗ cred (tallyAt (recvCell c j) () N) ∗ atPos ER (recvCell c j) 0 ∅ 0) := by
    unfold RecvRes; rw [if_neg (Nat.lt_irrefl _)]
  have e2 : RecvRes kB vB K c (j.val + 1) j = iprop(cellInv ER (rd kB vB) (K (recvCell c j)) (recvCell c j) ∗ dstPts c j (dstC kB vB c (isV j)) ∗ atPos ER (recvCell c j) (0 + 1) ∅ 0) := by
    unfold RecvRes; rw [if_pos (Nat.lt_succ_self _)]
  rw [e1, e2]
  icases H with ⟨⟨#HI, Hc, Hat⟩, Hback⟩
  iapply (Rounds.wp_wait_rest_token 𝒱₀ ER (rd kB vB) (c : Thread nD τ) none (κ := K (recvCell c j))
      (wpE_waitDma2_eq 𝒱₀ (c : Thread nD τ) none Set.univ) (Set.mem_univ _) () (O := 0) (W := W) (R := 0) (m := 0) (T := ∅)
      ((Nat.zero_add _).trans ((dst_credit j).trans (expect_recv kB vB c j).symm))) $$ [Hc HO Hat]
  · isplitr; · iexact HI
    isplitl [Hc]; · rw [dst_credit]; iexact Hc
    isplitl [HO]; · iexact HO
    isplitr; · rw [MayWait_zero]; iempintro
    iexact Hat
  iintro ⟨HO, Hat, -, Hpay⟩
  ihave Hp := (Entails.of_eq (rest_recv kB vB c j)) $$ Hpay
  iapply hk
  unfold St
  rw [owed_done]
  isplitl [Hq]; · iexact Hq
  isplitl [Hk]; · iexact Hk
  isplitl [Hv]; · iexact Hv
  isplitl [Ho]; · iexact Ho
  isplitl [HS]; · iexact HS
  isplitl [Hback Hp Hat]
  · iapply Hback
    isplitr; · iexact HI
    isplitl [Hp]; · unfold recvPay; iexact Hp
    iexact Hat
  iexists _; iexact HO

/-- The wait for copy j to have left, all copies being started: half the source comes back. -/
theorem step_sent (j : Fin 8) {sS : DmaSem sig} (hS : sS = sendS j) {src dst : Memref sig .tc .vmem S4x64x256 .bf16}
    (hdst : dst = srcM j) {hsw hdw} (hk : St qB kB vB K c 8 r (j.val + 1) o ⊢ exec c (k ⟨⟩) Q) :
    St qB kB vB K c 8 r j.val o ⊢ exec c (.op (.waitDma2 sS src dst hsw hdw) k) Q := by
  subst hS hdst
  unfold St
  rw [owed_done]
  iintro ⟨Hq, Hk, Hv, Ho, HS, HR, ⟨%W, HO⟩⟩
  ihave H := (bigSep_univ_update (Φ := fun i => SendRes kB vB K c 8 j.val i) (Ψ := fun i => SendRes kB vB K c 8 (j.val + 1) i) j
    (fun i hi => by
      have : i.val ≠ j.val := fun h => hi (Fin.ext h)
      have : (i.val < j.val + 1) = (i.val < j.val) := propext ⟨fun _ => by omega, fun _ => by omega⟩
      simp only [SendRes, this])) $$ HS
  have e1 : SendRes kB vB K c 8 j.val j = iprop(cellInv ER (rd kB vB) (K (sendCell c j)) (sendCell c j) ∗ cred (tallyAt (sendCell c j) () N) ∗ atPos ER (sendCell c j) 0 ∅ 0) := by
    unfold SendRes; rw [if_neg (Nat.lt_irrefl _), if_pos j.isLt]
  have e2 : SendRes kB vB K c 8 (j.val + 1) j = iprop(cellInv ER (rd kB vB) (K (sendCell c j)) (sendCell c j) ∗ srcPts kB vB c j ∗ atPos ER (sendCell c j) (0 + 1) ∅ 0) := by
    unfold SendRes; rw [if_pos (Nat.lt_succ_self _)]
  rw [e1, e2]
  icases H with ⟨⟨#HI, Hc, Hat⟩, Hback⟩
  iapply (Rounds.wp_wait_rest_token 𝒱₀ ER (rd kB vB) (c : Thread nD τ) none (κ := K (sendCell c j))
      (wpE_waitDma2_eq 𝒱₀ (c : Thread nD τ) none Set.univ) (Set.mem_univ _) () (O := 0) (W := W) (R := 0) (m := 0) (T := ∅)
      ((Nat.zero_add _).trans ((src_credit j).trans (expect_send kB vB c j).symm))) $$ [Hc HO Hat]
  · isplitr; · iexact HI
    isplitl [Hc]; · rw [src_credit]; iexact Hc
    isplitl [HO]; · iexact HO
    isplitr; · rw [MayWait_zero]; iempintro
    iexact Hat
  iintro ⟨HO, Hat, -, Hpay⟩
  ihave Hp := (Entails.of_eq (rest_send kB vB c j)) $$ Hpay
  iapply hk
  unfold St
  rw [owed_done]
  isplitl [Hq]; · iexact Hq
  isplitl [Hk]; · iexact Hk
  isplitl [Hv]; · iexact Hv
  isplitl [Ho]; · iexact Ho
  isplitl [Hback Hp Hat]
  · iapply Hback
    isplitr; · iexact HI
    isplitl [Hp]; · iexact Hp
    iexact Hat
  isplitl [HR]; · iexact HR
  iexists _; iexact HO

end Copies

end Cert.Exchange
end
-- ==== Proof.Chunks.lean ====
/-
  The four chunks of a block cover it, each element once; so a block held whole is its four chunks held, and the eight sources
  (or destinations) of the copies are the K and V blocks (or scratch buffers) whole.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The K copy that moves quarter i of the block. -/
def quarter (i : Fin 4) : Fin 8 := ⟨2 * i.val, by omega⟩

/-- The elements of quarter i. -/
def quarterSet (i : Fin 4) : Finset S2x8x64x256.Idx := (chunkR (quarter i)).set

theorem mem_quarter (i : Fin 4) (x : S2x8x64x256.Idx) : x ∈ quarterSet i ↔ (x 0).val = i.val / 2 ∧ (x 1).val / 4 = i.val % 2 := by
  unfold quarterSet chunkR
  rw [Rect.mem_set_unit]
  have hq : (quarter i).val = 2 * i.val := rfl
  constructor
  · intro h
    have a0 : (quarter i).val / 4 ≤ (x 0).val ∧ (x 0).val < (quarter i).val / 4 + 1 := h 0
    have a1 : 4 * ((quarter i).val / 2 % 2) ≤ (x 1).val ∧ (x 1).val < 4 * ((quarter i).val / 2 % 2) + 4 := h 1
    rw [hq] at a0 a1
    omega
  · rintro ⟨h0, h1⟩ a
    have b2 : (x 2).val < 64 := (x 2).isLt
    have b3 : (x 3).val < 256 := (x 3).isLt
    fin_cases a
    · show (quarter i).val / 4 ≤ (x 0).val ∧ (x 0).val < (quarter i).val / 4 + 1
      rw [hq]; omega
    · show 4 * ((quarter i).val / 2 % 2) ≤ (x 1).val ∧ (x 1).val < 4 * ((quarter i).val / 2 % 2) + 4
      rw [hq]; omega
    · show 0 ≤ (x 2).val ∧ (x 2).val < 0 + 64
      omega
    · show 0 ≤ (x 3).val ∧ (x 3).val < 0 + 256
      omega

theorem quarters_disj : ∀ i ∈ (Finset.univ : Finset (Fin 4)), ∀ i' ∈ (Finset.univ : Finset (Fin 4)), i ≠ i' → Disjoint (quarterSet i) (quarterSet i') := by
  intro i _ i' _ hne
  rw [Finset.disjoint_left]
  intro x hx hx'
  rw [mem_quarter] at hx hx'
  exact hne (Fin.ext (by omega))

theorem quarters_cover : (Finset.univ : Finset (Fin 4)).biUnion quarterSet = Finset.univ := by
  ext x
  have b0 : (x 0).val < 2 := (x 0).isLt
  have b1 : (x 1).val < 8 := (x 1).isLt
  simp only [Finset.mem_biUnion, Finset.mem_univ, true_and, iff_true]
  refine ⟨⟨2 * (x 0).val + (x 1).val / 4, by omega⟩, ?_⟩
  rw [mem_quarter]
  dsimp only
  omega

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A whole buffer is four quarters of it, whatever family of sets covers it. -/
theorem split4 {ℓ : Loc nD τ sig} (S : Fin 4 → Finset (Idx ℓ)) (hd : ∀ i ∈ (Finset.univ : Finset (Fin 4)), ∀ i' ∈ (Finset.univ : Finset (Fin 4)), i ≠ i' → Disjoint (S i) (S i'))
    (hc : (Finset.univ : Finset (Fin 4)).biUnion S = Finset.univ) (q : PosShare TreeShare) (f : Buf (Elt F) ℓ) :
    (ℓ ↦{q} f : sProp 𝕄) = iprop((ℓ ↦[S 0]{q} f) ∗ (ℓ ↦[S 1]{q} f) ∗ (ℓ ↦[S 2]{q} f) ∗ (ℓ ↦[S 3]{q} f)) := by
  rw [← four fun i => (ℓ ↦[S i]{q} f : sProp 𝕄), ← pointsTo_biUnion Finset.univ S hd, hc]

/-- Eight things in two fours, the even and the odd. -/
theorem eight_split (Φ : Fin 8 → sProp 𝕄) :
    bigSep Finset.univ Φ = iprop((Φ 0 ∗ Φ 2 ∗ Φ 4 ∗ Φ 6) ∗ (Φ 1 ∗ Φ 3 ∗ Φ 5 ∗ Φ 7)) := by
  rw [eight]
  have h₁ : iprop(Φ 0 ∗ Φ 1 ∗ Φ 2 ∗ Φ 3 ∗ Φ 4 ∗ Φ 5 ∗ Φ 6 ∗ Φ 7) ⊢ iprop((Φ 0 ∗ Φ 2 ∗ Φ 4 ∗ Φ 6) ∗ (Φ 1 ∗ Φ 3 ∗ Φ 5 ∗ Φ 7)) := by
    iintro ⟨H0, H1, H2, H3, H4, H5, H6, H7⟩
    isplitl [H0 H2 H4 H6]
    · isplitl [H0]; · iexact H0
      isplitl [H2]; · iexact H2
      isplitl [H4] <;> iassumption
    isplitl [H1]; · iexact H1
    isplitl [H3]; · iexact H3
    isplitl [H5] <;> iassumption
  have h₂ : iprop((Φ 0 ∗ Φ 2 ∗ Φ 4 ∗ Φ 6) ∗ (Φ 1 ∗ Φ 3 ∗ Φ 5 ∗ Φ 7)) ⊢ iprop(Φ 0 ∗ Φ 1 ∗ Φ 2 ∗ Φ 3 ∗ Φ 4 ∗ Φ 5 ∗ Φ 6 ∗ Φ 7) := by
    iintro ⟨⟨H0, H2, H4, H6⟩, ⟨H1, H3, H5, H7⟩⟩
    isplitl [H0]; · iexact H0
    isplitl [H1]; · iexact H1
    isplitl [H2]; · iexact H2
    isplitl [H3]; · iexact H3
    isplitl [H4]; · iexact H4
    isplitl [H5]; · iexact H5
    isplitl [H6] <;> iassumption
  exact BI.equiv_iff.mp ⟨h₁, h₂⟩

variable (kB vB : Dev nD → Blk F) (c : Dev nD)

theorem src_k (j : Fin 8) (hv : isV j = false) : srcPts kB vB c j = (kM.view.loc (c : Thread nD τ) ↦[(chunkR j).set]{fullShare.right} kB c : sProp 𝕄) := by
  unfold srcPts
  show ((chunk (srcBase (isV j)) j).view.loc (c : Thread nD τ) ↦[(chunk (srcBase (isV j)) j).view.set]{fullShare.right} srcC kB vB c (isV j)) = _
  rw [hv]
  refine congrArg (fun S => (kM.view.loc (c : Thread nD τ) ↦[S]{fullShare.right} kB c : sProp 𝕄)) ?_
  exact (View.set_reshape _ _).trans (View.set_slice_whole _ _)
theorem src_v (j : Fin 8) (hv : isV j = true) : srcPts kB vB c j = (vM.view.loc (c : Thread nD τ) ↦[(chunkR j).set]{fullShare.right} vB c : sProp 𝕄) := by
  unfold srcPts
  show ((chunk (srcBase (isV j)) j).view.loc (c : Thread nD τ) ↦[(chunk (srcBase (isV j)) j).view.set]{fullShare.right} srcC kB vB c (isV j)) = _
  rw [hv]
  refine congrArg (fun S => (vM.view.loc (c : Thread nD τ) ↦[S]{fullShare.right} vB c : sProp 𝕄)) ?_
  exact (View.set_reshape _ _).trans (View.set_slice_whole _ _)

/-- The sources of the eight copies: the right halves of the K and V blocks. -/
theorem sources : (bigSep Finset.univ fun j => srcPts kB vB c j)
    = iprop((kM.view.loc (c : Thread nD τ) ↦{fullShare.right} kB c) ∗ (vM.view.loc (c : Thread nD τ) ↦{fullShare.right} vB c)) := by
  rw [eight_split, src_k kB vB c 0 rfl, src_k kB vB c 2 rfl, src_k kB vB c 4 rfl, src_k kB vB c 6 rfl, src_v kB vB c 1 rfl, src_v kB vB c 3 rfl, src_v kB vB c 5 rfl, src_v kB vB c 7 rfl]
  rw [split4 (ℓ := kM.view.loc (c : Thread nD τ)) quarterSet quarters_disj quarters_cover, split4 (ℓ := vM.view.loc (c : Thread nD τ)) quarterSet quarters_disj quarters_cover]
  rfl

/-- A K destination at contents not yet the partner's. -/
theorem dst_k (j : Fin 8) (hv : isV j = false) (f : Blk F) : (ckM.view.loc (c : Thread nD τ) ↦[(chunkR j).set]{fullShare} f : sProp 𝕄) ⊢ iprop(∃ f, dstPts c j f) := by
  have : ∀ b, b = false → (ckM.view.loc (c : Thread nD τ) ↦[(chunkR j).set]{fullShare} f : sProp 𝕄)
      ⊢ iprop(∃ g : Buf (Elt F) ((chunk (dstBase b) j).view.loc (c : Thread nD τ)), (chunk (dstBase b) j).view.loc (c : Thread nD τ) ↦[(chunk (dstBase b) j).view.set]{fullShare} g) := by
    rintro _ rfl
    iintro H
    iexists f
    iapply (Entails.of_eq (congrArg (fun S => (ckM.view.loc (c : Thread nD τ) ↦[S]{fullShare} f : sProp 𝕄)) ((View.set_reshape _ _).trans (View.set_slice_whole _ _)).symm)) $$ H
  exact this (isV j) hv
theorem dst_v (j : Fin 8) (hv : isV j = true) (f : Blk F) : (cvM.view.loc (c : Thread nD τ) ↦[(chunkR j).set]{fullShare} f : sProp 𝕄) ⊢ iprop(∃ f, dstPts c j f) := by
  have : ∀ b, b = true → (cvM.view.loc (c : Thread nD τ) ↦[(chunkR j).set]{fullShare} f : sProp 𝕄)
      ⊢ iprop(∃ g : Buf (Elt F) ((chunk (dstBase b) j).view.loc (c : Thread nD τ)), (chunk (dstBase b) j).view.loc (c : Thread nD τ) ↦[(chunk (dstBase b) j).view.set]{fullShare} g) := by
    rintro _ rfl
    iintro H
    iexists f
    iapply (Entails.of_eq (congrArg (fun S => (cvM.view.loc (c : Thread nD τ) ↦[S]{fullShare} f : sProp 𝕄)) ((View.set_reshape _ _).trans (View.set_slice_whole _ _)).symm)) $$ H
  exact this (isV j) hv

/-- The scratch buffers, whatever they hold, are eight destinations. -/
theorem destinations : iprop((∃ f : Blk F, ckM.view.loc (c : Thread nD τ) ↦{fullShare} f) ∗ (∃ f : Blk F, cvM.view.loc (c : Thread nD τ) ↦{fullShare} f))
    ⊢ (bigSep Finset.univ fun j => iprop(∃ f, dstPts c j f) : sProp 𝕄) := by
  rw [eight_split]
  iintro ⟨⟨%f, H⟩, ⟨%g, H'⟩⟩
  ihave Hk := (Entails.of_eq (split4 (ℓ := ckM.view.loc (c : Thread nD τ)) quarterSet quarters_disj quarters_cover fullShare f)) $$ H
  ihave Hv := (Entails.of_eq (split4 (ℓ := cvM.view.loc (c : Thread nD τ)) quarterSet quarters_disj quarters_cover fullShare g)) $$ H'
  icases Hk with ⟨H0, H2, H4, H6⟩
  icases Hv with ⟨H1, H3, H5, H7⟩
  isplitl [H0 H2 H4 H6]
  · isplitl [H0]; · iapply (dst_k c 0 rfl f); iexact H0
    isplitl [H2]; · iapply (dst_k c 2 rfl f); iexact H2
    isplitl [H4]; · iapply (dst_k c 4 rfl f); iexact H4
    iapply (dst_k c 6 rfl f); iexact H6
  isplitl [H1]; · iapply (dst_v c 1 rfl g); iexact H1
  isplitl [H3]; · iapply (dst_v c 3 rfl g); iexact H3
  isplitl [H5]; · iapply (dst_v c 5 rfl g); iexact H5
  iapply (dst_v c 7 rfl g); iexact H7

/-- After all arrivals the scratch buffers hold the partner's K and V. -/
theorem arrivals : (bigSep Finset.univ fun j => dstPts c j (dstC kB vB c (isV j)))
    = iprop((ckM.view.loc (c : Thread nD τ) ↦{fullShare} kB (pt c)) ∗ (cvM.view.loc (c : Thread nD τ) ↦{fullShare} vB (pt c)) : sProp 𝕄) := by
  rw [eight_split, ck_pts (j := 0) rfl, ck_pts (j := 2) rfl, ck_pts (j := 4) rfl, ck_pts (j := 6) rfl, cv_pts (j := 1) rfl, cv_pts (j := 3) rfl, cv_pts (j := 5) rfl, cv_pts (j := 7) rfl]
  rw [split4 (ℓ := ckM.view.loc (c : Thread nD τ)) quarterSet quarters_disj quarters_cover, split4 (ℓ := cvM.view.loc (c : Thread nD τ)) quarterSet quarters_disj quarters_cover]
  rfl

/-- A buffer held in full is its two halves held. -/
theorem halves {ℓ : Loc nD τ sig} (f : Buf (Elt F) ℓ) : (ℓ ↦{fullShare} f : sProp 𝕄) ⊣⊢ iprop((ℓ ↦{fullShare.left} f) ∗ (ℓ ↦{fullShare.right} f)) :=
  pointsTo_share (PosShare.mem_left_op_right fullShare)

end Cert.Exchange
end
-- ==== Proof.Parts1.lean ====
/-
  The parts of the kernel that start the copies and begin the own keys.
-/
module

public import proofs.«01_k».proof.Proof.Steps

@[expose] public section

set_option maxRecDepth 8192

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {qB kB vB : Dev nD → Blk F} {K : GSem nD τ sig → ℕ} {c : Dev nD}
variable {h0 : qM.IsWhole} {h1 : kM.IsWhole} {h2 : vM.IsWhole} {h3 : oM.IsWhole} {h4 : ckM.IsWhole} {h5 : cvM.IsWhole}

/-- Part 2 of the kernel, from the state before it to the state after it. -/
theorem part2 {Q : (PUnit) → sProp (MT nD τ sig Unit (Elt F) ℕ UU ℕ)} (v2 : BitVec 32) (v8 : BitVec 32) (v9 : BitVec 32)
    (hk : St qB kB vB K c 2 0 0 0 ⊢ Q ⟨⟩) :
    St qB kB vB K c 0 0 0 0 ⊢ exec c (k0_part2 qM h0 kM h1 vM h2 oM h3 ckM h4 cvM h5 cc0_scratch2 cc0_scratch3 cc0_scratch4 cc0_scratch5 c v2 v8 v9) Q := by
  rw [k0_part2_eq_skeleton]
  unfold k0_part2_skel
  simp only [Prog.lift, Prog.bind_op, Prog.bind_ret, Prog.pure_eq_ret]
  refine step_send 0 _ (dev2_eq c) rfl rfl rfl rfl ?_
  refine step_send 1 _ (dev3_eq c) rfl rfl rfl rfl ?_
  exact hk.trans (le_wp_ret _ _ _ _ Q)

/-- Part 3 of the kernel, from the state before it to the state after it. -/
theorem part3 {Q : (PUnit) → sProp (MT nD τ sig Unit (Elt F) ℕ UU ℕ)} (v2 : BitVec 32) (v8 : BitVec 32) (v9 : BitVec 32)
    (hk : St qB kB vB K c 4 0 0 0 ⊢ Q ⟨⟩) :
    St qB kB vB K c 2 0 0 0 ⊢ exec c (k0_part3 qM h0 kM h1 vM h2 oM h3 ckM h4 cvM h5 cc0_scratch2 cc0_scratch3 cc0_scratch4 cc0_scratch5 c v2 v8 v9) Q := by
  rw [k0_part3_eq_skeleton]
  unfold k0_part3_skel
  simp only [Prog.lift, Prog.bind_op, Prog.bind_ret, Prog.pure_eq_ret]
  refine step_send 2 _ (dev4_eq c) rfl rfl rfl rfl ?_
  refine step_send 3 _ (dev5_eq c) rfl rfl rfl rfl ?_
  exact hk.trans (le_wp_ret _ _ _ _ Q)

/-- Part 4 of the kernel, from the state before it to the state after it. -/
theorem part4 {Q : (PUnit) → sProp (MT nD τ sig Unit (Elt F) ℕ UU ℕ)} (v2 : BitVec 32) (v8 : BitVec 32) (v9 : BitVec 32)
    (hk : St qB kB vB K c 6 0 0 0 ⊢ Q ⟨⟩) :
    St qB kB vB K c 4 0 0 0 ⊢ exec c (k0_part4 qM h0 kM h1 vM h2 oM h3 ckM h4 cvM h5 cc0_scratch2 cc0_scratch3 cc0_scratch4 cc0_scratch5 c v2 v8 v9) Q := by
  rw [k0_part4_eq_skeleton]
  unfold k0_part4_skel
  simp only [Prog.lift, Prog.bind_op, Prog.bind_ret, Prog.pure_eq_ret]
  refine step_send 4 _ (dev6_eq c) rfl rfl rfl rfl ?_
  refine step_send 5 _ (dev7_eq c) rfl rfl rfl rfl ?_
  exact hk.trans (le_wp_ret _ _ _ _ Q)

/-- Part 5 of the kernel, from the state before it to the state after it. -/
theorem part5 {Q : (Σ' (v133 : FVec F S256x256 .f32) (v135 : FVec F S1x256 .f32), FVec F S256x256 .f32) → sProp (MT nD τ sig Unit (Elt F) ℕ UU ℕ)} (v2 : BitVec 32) (v8 : BitVec 32) (v9 : BitVec 32)
    (hk : St qB kB vB K c 8 0 0 0 ⊢ Q ⟨k0_pay1 (slab (qB c) 0 0 inb_S2x8x64x256_S1x1x64x256_0_0_0_0) (slab (kB c) 0 0 inb_S2x8x64x256_S1x1x64x256_0_0_0_0), k0_pay2 (slab (qB c) 0 0 inb_S2x8x64x256_S1x1x64x256_0_0_0_0) (slab (kB c) 0 0 inb_S2x8x64x256_S1x1x64x256_0_0_0_0), k0_pay3 (slab (qB c) 0 0 inb_S2x8x64x256_S1x1x64x256_0_0_0_0) (slab (kB c) 0 0 inb_S2x8x64x256_S1x1x64x256_0_0_0_0)⟩) :
    St qB kB vB K c 6 0 0 0 ⊢ exec c (k0_part5 qM h0 kM h1 vM h2 oM h3 ckM h4 cvM h5 cc0_scratch2 cc0_scratch3 cc0_scratch4 cc0_scratch5 c v2 v8 v9) Q := by
  rw [k0_part5_eq_skeleton]
  unfold k0_part5_skel
  simp only [Prog.lift, Prog.bind_op, Prog.bind_ret, Prog.pure_eq_ret]
  refine step_send 6 _ (dev8_eq c) rfl rfl rfl rfl ?_
  refine step_send 7 _ (dev9_eq c) rfl rfl rfl rfl ?_
  refine step_q ?_
  refine step_k ?_
  exact hk.trans (le_wp_ret _ _ _ _ Q)

end Cert.Exchange
end
-- ==== Proof.Parts2.lean ====
/-
  The parts of the kernel that work on the own keys.
-/
module

public import proofs.«01_k».proof.Proof.Steps

@[expose] public section

set_option maxRecDepth 8192

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {qB kB vB : Dev nD → Blk F} {K : GSem nD τ sig → ℕ} {c : Dev nD}
variable {h0 : qM.IsWhole} {h1 : kM.IsWhole} {h2 : vM.IsWhole} {h3 : oM.IsWhole} {h4 : ckM.IsWhole} {h5 : cvM.IsWhole}

/-- Part 6 of the kernel, from the state before it to the state after it. -/
theorem part6 {Q : (Σ' (v140 : FVec F S1x256 .f32) (v144 : FVec F S64x256 .f32) (v151 : FVec F S1x256 .f32) (v156 : FVec F S1x256 .f32) (v160 : FVec F S64x256 .f32), FVec F S256x256 .f32) → sProp (MT nD τ sig Unit (Elt F) ℕ UU ℕ)} (v133 : FVec F S256x256 .f32) (v136 : FVec F S256x256 .f32)
    (hk : St qB kB vB K c 8 0 0 0 ⊢ Q ⟨k0_pay5 v133 v136, k0_pay6 v133 v136 (slab (vB c) 0 0 inb_S2x8x64x256_S1x1x64x256_0_0_0_0), k0_pay8 (slab (qB c) 0 1 inb_S2x8x64x256_S1x1x64x256_0_1_0_0) (slab (kB c) 0 1 inb_S2x8x64x256_S1x1x64x256_0_1_0_0), k0_pay10 (slab (qB c) 0 1 inb_S2x8x64x256_S1x1x64x256_0_1_0_0) (slab (kB c) 0 1 inb_S2x8x64x256_S1x1x64x256_0_1_0_0), k0_pay11 (slab (qB c) 0 1 inb_S2x8x64x256_S1x1x64x256_0_1_0_0) (slab (kB c) 0 1 inb_S2x8x64x256_S1x1x64x256_0_1_0_0) (slab (vB c) 0 1 inb_S2x8x64x256_S1x1x64x256_0_1_0_0), k0_pay12 (slab (qB c) 0 2 inb_S2x8x64x256_S1x1x64x256_0_2_0_0) (slab (kB c) 0 2 inb_S2x8x64x256_S1x1x64x256_0_2_0_0)⟩) :
    St qB kB vB K c 8 0 0 0 ⊢ exec c (k0_part6 qM h0 kM h1 vM h2 oM h3 ckM h4 cvM h5 cc0_scratch2 cc0_scratch3 cc0_scratch4 cc0_scratch5 v133 v136) Q := by
  rw [k0_part6_eq_skeleton]
  unfold k0_part6_skel
  simp only [Prog.lift, Prog.bind_op, Prog.bind_ret, Prog.pure_eq_ret]
  refine step_v ?_
  refine step_q ?_
  refine step_k ?_
  refine step_v ?_
  refine step_q ?_
  refine step_k ?_
  exact hk.trans (le_wp_ret _ _ _ _ Q)

/-- Part 7 of the kernel, from the state before it to the state after it. -/
theorem part7 {Q : (Σ' (v167 : FVec F S1x256 .f32) (v172 : FVec F S1x256 .f32) (v176 : FVec F S64x256 .f32) (v183 : FVec F S1x256 .f32) (v188 : FVec F S1x256 .f32) (v192 : FVec F S64x256 .f32), FVec F S64x256 .bf16) → sProp (MT nD τ sig Unit (Elt F) ℕ UU ℕ)} (v165 : FVec F S256x256 .f32)
    (hk : St qB kB vB K c 8 0 0 0 ⊢ Q ⟨k0_pay13 v165, k0_pay15 v165, k0_pay16 v165 (slab (vB c) 0 2 inb_S2x8x64x256_S1x1x64x256_0_2_0_0), k0_pay18 (slab (qB c) 0 3 inb_S2x8x64x256_S1x1x64x256_0_3_0_0) (slab (kB c) 0 3 inb_S2x8x64x256_S1x1x64x256_0_3_0_0), k0_pay20 (slab (qB c) 0 3 inb_S2x8x64x256_S1x1x64x256_0_3_0_0) (slab (kB c) 0 3 inb_S2x8x64x256_S1x1x64x256_0_3_0_0), k0_pay21 (slab (qB c) 0 3 inb_S2x8x64x256_S1x1x64x256_0_3_0_0) (slab (kB c) 0 3 inb_S2x8x64x256_S1x1x64x256_0_3_0_0) (slab (vB c) 0 3 inb_S2x8x64x256_S1x1x64x256_0_3_0_0), k0_pay22 (slab (qB c) 0 4 inb_S2x8x64x256_S1x1x64x256_0_4_0_0)⟩) :
    St qB kB vB K c 8 0 0 0 ⊢ exec c (k0_part7 qM h0 kM h1 vM h2 oM h3 ckM h4 cvM h5 cc0_scratch2 cc0_scratch3 cc0_scratch4 cc0_scratch5 v165) Q := by
  rw [k0_part7_eq_skeleton]
  unfold k0_part7_skel
  simp only [Prog.lift, Prog.bind_op, Prog.bind_ret, Prog.pure_eq_ret]
  refine step_v ?_
  refine step_q ?_
  refine step_k ?_
  refine step_v ?_
  refine step_q ?_
  exact hk.trans (le_wp_ret _ _ _ _ Q)

/-- Part 8 of the kernel, from the state before it to the state after it. -/
theorem part8 {Q : (Σ' (v199 : FVec F S1x256 .f32) (v204 : FVec F S1x256 .f32) (v208 : FVec F S64x256 .f32) (v215 : FVec F S1x256 .f32) (v220 : FVec F S1x256 .f32) (v224 : FVec F S64x256 .f32), FVec F S64x256 .bf16) → sProp (MT nD τ sig Unit (Elt F) ℕ UU ℕ)} (v194 : FVec F S64x256 .bf16)
    (hk : St qB kB vB K c 8 0 0 0 ⊢ Q ⟨k0_pay24 v194 (slab (kB c) 0 4 inb_S2x8x64x256_S1x1x64x256_0_4_0_0), k0_pay26 v194 (slab (kB c) 0 4 inb_S2x8x64x256_S1x1x64x256_0_4_0_0), k0_pay27 v194 (slab (kB c) 0 4 inb_S2x8x64x256_S1x1x64x256_0_4_0_0) (slab (vB c) 0 4 inb_S2x8x64x256_S1x1x64x256_0_4_0_0), k0_pay29 (slab (qB c) 0 5 inb_S2x8x64x256_S1x1x64x256_0_5_0_0) (slab (kB c) 0 5 inb_S2x8x64x256_S1x1x64x256_0_5_0_0), k0_pay31 (slab (qB c) 0 5 inb_S2x8x64x256_S1x1x64x256_0_5_0_0) (slab (kB c) 0 5 inb_S2x8x64x256_S1x1x64x256_0_5_0_0), k0_pay32 (slab (qB c) 0 5 inb_S2x8x64x256_S1x1x64x256_0_5_0_0) (slab (kB c) 0 5 inb_S2x8x64x256_S1x1x64x256_0_5_0_0) (slab (vB c) 0 5 inb_S2x8x64x256_S1x1x64x256_0_5_0_0), k0_pay33 (slab (qB c) 0 6 inb_S2x8x64x256_S1x1x64x256_0_6_0_0)⟩) :
    St qB kB vB K c 8 0 0 0 ⊢ exec c (k0_part8 qM h0 kM h1 vM h2 oM h3 ckM h4 cvM h5 cc0_scratch2 cc0_scratch3 cc0_scratch4 cc0_scratch5 v194) Q := by
  rw [k0_part8_eq_skeleton]
  unfold k0_part8_skel
  simp only [Prog.lift, Prog.bind_op, Prog.bind_ret, Prog.pure_eq_ret]
  refine step_k ?_
  refine step_v ?_
  refine step_q ?_
  refine step_k ?_
  refine step_v ?_
  refine step_q ?_
  exact hk.trans (le_wp_ret _ _ _ _ Q)

/-- Part 9 of the kernel, from the state before it to the state after it. -/
theorem part9 {Q : (Σ' (v231 : FVec F S1x256 .f32) (v236 : FVec F S1x256 .f32) (v240 : FVec F S64x256 .f32) (v247 : FVec F S1x256 .f32) (v252 : FVec F S1x256 .f32), FVec F S64x256 .f32) → sProp (MT nD τ sig Unit (Elt F) ℕ UU ℕ)} (v226 : FVec F S64x256 .bf16)
    (hk : St qB kB vB K c 8 0 0 0 ⊢ Q ⟨k0_pay35 v226 (slab (kB c) 0 6 inb_S2x8x64x256_S1x1x64x256_0_6_0_0), k0_pay37 v226 (slab (kB c) 0 6 inb_S2x8x64x256_S1x1x64x256_0_6_0_0), k0_pay38 v226 (slab (kB c) 0 6 inb_S2x8x64x256_S1x1x64x256_0_6_0_0) (slab (vB c) 0 6 inb_S2x8x64x256_S1x1x64x256_0_6_0_0), k0_pay40 (slab (qB c) 0 7 inb_S2x8x64x256_S1x1x64x256_0_7_0_0) (slab (kB c) 0 7 inb_S2x8x64x256_S1x1x64x256_0_7_0_0), k0_pay42 (slab (qB c) 0 7 inb_S2x8x64x256_S1x1x64x256_0_7_0_0) (slab (kB c) 0 7 inb_S2x8x64x256_S1x1x64x256_0_7_0_0), k0_pay43 (slab (qB c) 0 7 inb_S2x8x64x256_S1x1x64x256_0_7_0_0) (slab (kB c) 0 7 inb_S2x8x64x256_S1x1x64x256_0_7_0_0) (slab (vB c) 0 7 inb_S2x8x64x256_S1x1x64x256_0_7_0_0)⟩) :
    St qB kB vB K c 8 0 0 0 ⊢ exec c (k0_part9 qM h0 kM h1 vM h2 oM h3 ckM h4 cvM h5 cc0_scratch2 cc0_scratch3 cc0_scratch4 cc0_scratch5 v226) Q := by
  rw [k0_part9_eq_skeleton]
  unfold k0_part9_skel
  simp only [Prog.lift, Prog.bind_op, Prog.bind_ret, Prog.pure_eq_ret]
  refine step_k ?_
  refine step_v ?_
  refine step_q ?_
  refine step_k ?_
  refine step_v ?_
  exact hk.trans (le_wp_ret _ _ _ _ Q)

/-- Part 10 of the kernel, from the state before it to the state after it. -/
theorem part10 {Q : (Σ' (v263 : FVec F S1x256 .f32) (v268 : FVec F S1x256 .f32) (v272 : FVec F S64x256 .f32) (v279 : FVec F S1x256 .f32) (v284 : FVec F S1x256 .f32) (v286 : FVec F S64x256 .bf16), FVec F S256x256 .bf16) → sProp (MT nD τ sig Unit (Elt F) ℕ UU ℕ)}
    (hk : St qB kB vB K c 8 0 0 0 ⊢ Q ⟨k0_pay45 (slab (qB c) 1 0 inb_S2x8x64x256_S1x1x64x256_1_0_0_0) (slab (kB c) 1 0 inb_S2x8x64x256_S1x1x64x256_1_0_0_0), k0_pay47 (slab (qB c) 1 0 inb_S2x8x64x256_S1x1x64x256_1_0_0_0) (slab (kB c) 1 0 inb_S2x8x64x256_S1x1x64x256_1_0_0_0), k0_pay48 (slab (qB c) 1 0 inb_S2x8x64x256_S1x1x64x256_1_0_0_0) (slab (kB c) 1 0 inb_S2x8x64x256_S1x1x64x256_1_0_0_0) (slab (vB c) 1 0 inb_S2x8x64x256_S1x1x64x256_1_0_0_0), k0_pay50 (slab (qB c) 1 1 inb_S2x8x64x256_S1x1x64x256_1_1_0_0) (slab (kB c) 1 1 inb_S2x8x64x256_S1x1x64x256_1_1_0_0), k0_pay52 (slab (qB c) 1 1 inb_S2x8x64x256_S1x1x64x256_1_1_0_0) (slab (kB c) 1 1 inb_S2x8x64x256_S1x1x64x256_1_1_0_0), k0_pay53 (slab (vB c) 1 1 inb_S2x8x64x256_S1x1x64x256_1_1_0_0), k0_pay54 (slab (qB c) 1 1 inb_S2x8x64x256_S1x1x64x256_1_1_0_0) (slab (kB c) 1 1 inb_S2x8x64x256_S1x1x64x256_1_1_0_0)⟩) :
    St qB kB vB K c 8 0 0 0 ⊢ exec c (k0_part10 qM h0 kM h1 vM h2 oM h3 ckM h4 cvM h5 cc0_scratch2 cc0_scratch3 cc0_scratch4 cc0_scratch5) Q := by
  rw [k0_part10_eq_skeleton]
  unfold k0_part10_skel
  simp only [Prog.lift, Prog.bind_op, Prog.bind_ret, Prog.pure_eq_ret]
  refine step_q ?_
  refine step_k ?_
  refine step_v ?_
  refine step_q ?_
  refine step_k ?_
  refine step_v ?_
  exact hk.trans (le_wp_ret _ _ _ _ Q)

/-- Part 11 of the kernel, from the state before it to the state after it. -/
theorem part11 {Q : (Σ' (v288 : FVec F S64x256 .f32) (v295 : FVec F S1x256 .f32) (v300 : FVec F S1x256 .f32) (v304 : FVec F S64x256 .f32) (v311 : FVec F S1x256 .f32) (v314 : FVec F S256x256 .f32), FVec F S1x256 .f32) → sProp (MT nD τ sig Unit (Elt F) ℕ UU ℕ)} (v286 : FVec F S64x256 .bf16) (v287 : FVec F S256x256 .bf16)
    (hk : St qB kB vB K c 8 0 0 0 ⊢ Q ⟨k0_pay55 v286 v287, k0_pay57 (slab (qB c) 1 2 inb_S2x8x64x256_S1x1x64x256_1_2_0_0) (slab (kB c) 1 2 inb_S2x8x64x256_S1x1x64x256_1_2_0_0), k0_pay59 (slab (qB c) 1 2 inb_S2x8x64x256_S1x1x64x256_1_2_0_0) (slab (kB c) 1 2 inb_S2x8x64x256_S1x1x64x256_1_2_0_0), k0_pay60 (slab (qB c) 1 2 inb_S2x8x64x256_S1x1x64x256_1_2_0_0) (slab (kB c) 1 2 inb_S2x8x64x256_S1x1x64x256_1_2_0_0) (slab (vB c) 1 2 inb_S2x8x64x256_S1x1x64x256_1_2_0_0), k0_pay62 (slab (qB c) 1 3 inb_S2x8x64x256_S1x1x64x256_1_3_0_0) (slab (kB c) 1 3 inb_S2x8x64x256_S1x1x64x256_1_3_0_0), k0_pay63 (slab (qB c) 1 3 inb_S2x8x64x256_S1x1x64x256_1_3_0_0) (slab (kB c) 1 3 inb_S2x8x64x256_S1x1x64x256_1_3_0_0), k0_pay64 (slab (qB c) 1 3 inb_S2x8x64x256_S1x1x64x256_1_3_0_0) (slab (kB c) 1 3 inb_S2x8x64x256_S1x1x64x256_1_3_0_0)⟩) :
    St qB kB vB K c 8 0 0 0 ⊢ exec c (k0_part11 qM h0 kM h1 vM h2 oM h3 ckM h4 cvM h5 cc0_scratch2 cc0_scratch3 cc0_scratch4 cc0_scratch5 v286 v287) Q := by
  rw [k0_part11_eq_skeleton]
  unfold k0_part11_skel
  simp only [Prog.lift, Prog.bind_op, Prog.bind_ret, Prog.pure_eq_ret]
  refine step_q ?_
  refine step_k ?_
  refine step_v ?_
  refine step_q ?_
  refine step_k ?_
  exact hk.trans (le_wp_ret _ _ _ _ Q)

/-- Part 12 of the kernel, from the state before it to the state after it. -/
theorem part12 {Q : (Σ' (v320 : FVec F S64x256 .f32) (v327 : FVec F S1x256 .f32) (v332 : FVec F S1x256 .f32) (v336 : FVec F S64x256 .f32) (v343 : FVec F S1x256 .f32) (v346 : FVec F S256x256 .f32), FVec F S256 .f32) → sProp (MT nD τ sig Unit (Elt F) ℕ UU ℕ)} (v314 : FVec F S256x256 .f32)
    (hk : St qB kB vB K c 8 0 0 0 ⊢ Q ⟨k0_pay65 v314 (slab (vB c) 1 3 inb_S2x8x64x256_S1x1x64x256_1_3_0_0), k0_pay67 (slab (qB c) 1 4 inb_S2x8x64x256_S1x1x64x256_1_4_0_0) (slab (kB c) 1 4 inb_S2x8x64x256_S1x1x64x256_1_4_0_0), k0_pay69 (slab (qB c) 1 4 inb_S2x8x64x256_S1x1x64x256_1_4_0_0) (slab (kB c) 1 4 inb_S2x8x64x256_S1x1x64x256_1_4_0_0), k0_pay70 (slab (qB c) 1 4 inb_S2x8x64x256_S1x1x64x256_1_4_0_0) (slab (kB c) 1 4 inb_S2x8x64x256_S1x1x64x256_1_4_0_0) (slab (vB c) 1 4 inb_S2x8x64x256_S1x1x64x256_1_4_0_0), k0_pay72 (slab (qB c) 1 5 inb_S2x8x64x256_S1x1x64x256_1_5_0_0) (slab (kB c) 1 5 inb_S2x8x64x256_S1x1x64x256_1_5_0_0), k0_pay73 (slab (qB c) 1 5 inb_S2x8x64x256_S1x1x64x256_1_5_0_0) (slab (kB c) 1 5 inb_S2x8x64x256_S1x1x64x256_1_5_0_0), k0_pay74 (slab (qB c) 1 5 inb_S2x8x64x256_S1x1x64x256_1_5_0_0) (slab (kB c) 1 5 inb_S2x8x64x256_S1x1x64x256_1_5_0_0)⟩) :
    St qB kB vB K c 8 0 0 0 ⊢ exec c (k0_part12 qM h0 kM h1 vM h2 oM h3 ckM h4 cvM h5 cc0_scratch2 cc0_scratch3 cc0_scratch4 cc0_scratch5 v314) Q := by
  rw [k0_part12_eq_skeleton]
  unfold k0_part12_skel
  simp only [Prog.lift, Prog.bind_op, Prog.bind_ret, Prog.pure_eq_ret]
  refine step_v ?_
  refine step_q ?_
  refine step_k ?_
  refine step_v ?_
  refine step_q ?_
  refine step_k ?_
  exact hk.trans (le_wp_ret _ _ _ _ Q)

/-- Part 13 of the kernel, from the state before it to the state after it. -/
theorem part13 {Q : (Σ' (v348 : FVec F S1x256 .f32) (v352 : FVec F S64x256 .f32) (v359 : FVec F S1x256 .f32) (v364 : FVec F S1x256 .f32) (v368 : FVec F S64x256 .f32) (v373 : FVec F S256x256 .f32) (v375 : FVec F S1x256 .f32), FVec F S256x256 .f32) → sProp (MT nD τ sig Unit (Elt F) ℕ UU ℕ)} (v346 : FVec F S256x256 .f32) (v347 : FVec F S256 .f32)
    (hk : St qB kB vB K c 8 0 0 0 ⊢ Q ⟨k0_pay75 v347, k0_pay76 v346 (slab (vB c) 1 5 inb_S2x8x64x256_S1x1x64x256_1_5_0_0), k0_pay78 (slab (qB c) 1 6 inb_S2x8x64x256_S1x1x64x256_1_6_0_0) (slab (kB c) 1 6 inb_S2x8x64x256_S1x1x64x256_1_6_0_0), k0_pay80 (slab (qB c) 1 6 inb_S2x8x64x256_S1x1x64x256_1_6_0_0) (slab (kB c) 1 6 inb_S2x8x64x256_S1x1x64x256_1_6_0_0), k0_pay81 (slab (qB c) 1 6 inb_S2x8x64x256_S1x1x64x256_1_6_0_0) (slab (kB c) 1 6 inb_S2x8x64x256_S1x1x64x256_1_6_0_0) (slab (vB c) 1 6 inb_S2x8x64x256_S1x1x64x256_1_6_0_0), k0_pay82 (slab (qB c) 1 7 inb_S2x8x64x256_S1x1x64x256_1_7_0_0) (slab (kB c) 1 7 inb_S2x8x64x256_S1x1x64x256_1_7_0_0), k0_pay83 (slab (qB c) 1 7 inb_S2x8x64x256_S1x1x64x256_1_7_0_0) (slab (kB c) 1 7 inb_S2x8x64x256_S1x1x64x256_1_7_0_0), k0_pay84 (slab (qB c) 1 7 inb_S2x8x64x256_S1x1x64x256_1_7_0_0) (slab (kB c) 1 7 inb_S2x8x64x256_S1x1x64x256_1_7_0_0)⟩) :
    St qB kB vB K c 8 0 0 0 ⊢ exec c (k0_part13 qM h0 kM h1 vM h2 oM h3 ckM h4 cvM h5 cc0_scratch2 cc0_scratch3 cc0_scratch4 cc0_scratch5 v346 v347) Q := by
  rw [k0_part13_eq_skeleton]
  unfold k0_part13_skel
  simp only [Prog.lift, Prog.bind_op, Prog.bind_ret, Prog.pure_eq_ret]
  refine step_v ?_
  refine step_q ?_
  refine step_k ?_
  refine step_v ?_
  refine step_q ?_
  refine step_k ?_
  exact hk.trans (le_wp_ret _ _ _ _ Q)

/-- Part 14 of the kernel, from the state before it to the state after it. -/
theorem part14 {Q : (Σ' (v380 : FVec F S1x256 .f32) (v384 : FVec F S64x256 .f32), FVec F S256x256 .f32) → sProp (MT nD τ sig Unit (Elt F) ℕ UU ℕ)} (v2 : BitVec 32) (v8 : BitVec 32) (v9 : BitVec 32) (v373 : FVec F S256x256 .f32) (v376 : FVec F S256x256 .f32)
    (hk : St qB kB vB K c 8 1 0 0 ⊢ Q ⟨k0_pay86 v373 v376, k0_pay87 v373 v376 (slab (vB c) 1 7 inb_S2x8x64x256_S1x1x64x256_1_7_0_0), k0_pay88 (slab (kB (pt c)) 0 0 inb_S2x8x64x256_S1x1x64x256_0_0_0_0) (slab (qB c) 0 0 inb_S2x8x64x256_S1x1x64x256_0_0_0_0)⟩) :
    St qB kB vB K c 8 0 0 0 ⊢ exec c (k0_part14 qM h0 kM h1 vM h2 oM h3 ckM h4 cvM h5 cc0_scratch2 cc0_scratch3 cc0_scratch4 cc0_scratch5 v2 v8 v9 v373 v376) Q := by
  rw [k0_part14_eq_skeleton]
  unfold k0_part14_skel
  simp only [Prog.lift, Prog.bind_op, Prog.bind_ret, Prog.pure_eq_ret]
  refine step_v ?_
  refine step_recv 0 rfl rfl ?_
  refine step_ck 0 rfl (by decide) (by decide) (by decide) (by decide) ?_
  refine step_q ?_
  exact hk.trans (le_wp_ret _ _ _ _ Q)

end Cert.Exchange
end
-- ==== Proof.Parts3.lean ====
/-
  The parts that take in the partner's keys and store the first batch entry's heads.
-/
module

public import proofs.«01_k».proof.Proof.Steps

@[expose] public section

set_option maxRecDepth 8192

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {qB kB vB : Dev nD → Blk F} {K : GSem nD τ sig → ℕ} {c : Dev nD}
variable {h0 : qM.IsWhole} {h1 : kM.IsWhole} {h2 : vM.IsWhole} {h3 : oM.IsWhole} {h4 : ckM.IsWhole} {h5 : cvM.IsWhole}

/-- Part 15 of the kernel, from the state before it to the state after it. -/
theorem part15 {Q : (Σ' (v406 : FVec F S256x256 .f32) (v411 : FVec F S256x256 .f32), FVec F S256x256 .f32) → sProp (MT nD τ sig Unit (Elt F) ℕ UU ℕ)} (v2 : BitVec 32) (v8 : BitVec 32) (v9 : BitVec 32)
    (hk : St qB kB vB K c 8 1 0 0 ⊢ Q ⟨k0_pay89 (slab (kB (pt c)) 0 1 inb_S2x8x64x256_S1x1x64x256_0_1_0_0) (slab (qB c) 0 1 inb_S2x8x64x256_S1x1x64x256_0_1_0_0), k0_pay90 (slab (kB (pt c)) 0 2 inb_S2x8x64x256_S1x1x64x256_0_2_0_0) (slab (qB c) 0 2 inb_S2x8x64x256_S1x1x64x256_0_2_0_0), k0_pay91 (slab (kB (pt c)) 0 3 inb_S2x8x64x256_S1x1x64x256_0_3_0_0) (slab (qB c) 0 3 inb_S2x8x64x256_S1x1x64x256_0_3_0_0)⟩) :
    St qB kB vB K c 8 1 0 0 ⊢ exec c (k0_part15 qM h0 kM h1 vM h2 oM h3 ckM h4 cvM h5 cc0_scratch2 cc0_scratch3 cc0_scratch4 cc0_scratch5 v2 v8 v9) Q := by
  rw [k0_part15_eq_skeleton]
  unfold k0_part15_skel
  simp only [Prog.lift, Prog.bind_op, Prog.bind_ret, Prog.pure_eq_ret]
  refine step_ck 0 rfl (by decide) (by decide) (by decide) (by decide) ?_
  refine step_q ?_
  refine step_ck 0 rfl (by decide) (by decide) (by decide) (by decide) ?_
  refine step_q ?_
  refine step_ck 0 rfl (by decide) (by decide) (by decide) (by decide) ?_
  refine step_q ?_
  exact hk.trans (le_wp_ret _ _ _ _ Q)

/-- Part 16 of the kernel, from the state before it to the state after it. -/
theorem part16 {Q : (Σ' (v460 : FVec F S1x256 .f32) (v463 : FVec F S256x256 .f32), FVec F S1x256 .f32) → sProp (MT nD τ sig Unit (Elt F) ℕ UU ℕ)} (v135 : FVec F S1x256 .f32) (v140 : FVec F S1x256 .f32) (v144 : FVec F S64x256 .f32) (v401 : FVec F S256x256 .f32) (v406 : FVec F S256x256 .f32)
    (hw0 : k0_pay92 v135 v140 v144 v401 (slab (vB (pt c)) 0 0 inb_S2x8x64x256_S1x1x64x256_0_0_0_0)
      = headOut (slab (qB c) 0 0 inb_S2x8x64x256_S1x1x64x256_0_0_0_0) (slab (kB c) 0 0 inb_S2x8x64x256_S1x1x64x256_0_0_0_0) (slab (vB c) 0 0 inb_S2x8x64x256_S1x1x64x256_0_0_0_0) (slab (kB (pt c)) 0 0 inb_S2x8x64x256_S1x1x64x256_0_0_0_0) (slab (vB (pt c)) 0 0 inb_S2x8x64x256_S1x1x64x256_0_0_0_0))
    (hk : St qB kB vB K c 8 2 0 1 ⊢ Q ⟨k0_pay93 v406, k0_pay94 v406, k0_pay95 v406⟩) :
    St qB kB vB K c 8 1 0 0 ⊢ exec c (k0_part16 qM h0 kM h1 vM h2 oM h3 ckM h4 cvM h5 cc0_scratch2 cc0_scratch3 cc0_scratch4 cc0_scratch5 v135 v140 v144 v401 v406) Q := by
  rw [k0_part16_eq_skeleton]
  unfold k0_part16_skel
  simp only [Prog.lift, Prog.bind_op, Prog.bind_ret, Prog.pure_eq_ret]
  refine step_recv 1 rfl rfl ?_
  refine step_cv 1 rfl (by decide) (by decide) (by decide) (by decide) ?_
  refine step_o fun _ => ?_
  refine step_store (b := 0) (h := 0) rfl (by decide) hw0 ?_
  exact hk.trans (le_wp_ret _ _ _ _ Q)

/-- Part 17 of the kernel, from the state before it to the state after it. -/
theorem part17 {Q : (Σ' (v499 : FVec F S64x256 .f32) (v504 : FVec F S1x256 .f32) (v507 : FVec F S1x256 .f32), FVec F S64x256 .f32) → sProp (MT nD τ sig Unit (Elt F) ℕ UU ℕ)} (v151 : FVec F S1x256 .f32) (v156 : FVec F S1x256 .f32) (v160 : FVec F S64x256 .f32) (v167 : FVec F S1x256 .f32) (v172 : FVec F S1x256 .f32) (v176 : FVec F S64x256 .f32) (v411 : FVec F S256x256 .f32) (v460 : FVec F S1x256 .f32) (v463 : FVec F S256x256 .f32) (v465 : FVec F S1x256 .f32)
    (hw1 : k0_pay96 v151 v156 v160 v460 v463 v465 (slab (vB (pt c)) 0 1 inb_S2x8x64x256_S1x1x64x256_0_1_0_0)
      = headOut (slab (qB c) 0 1 inb_S2x8x64x256_S1x1x64x256_0_1_0_0) (slab (kB c) 0 1 inb_S2x8x64x256_S1x1x64x256_0_1_0_0) (slab (vB c) 0 1 inb_S2x8x64x256_S1x1x64x256_0_1_0_0) (slab (kB (pt c)) 0 1 inb_S2x8x64x256_S1x1x64x256_0_1_0_0) (slab (vB (pt c)) 0 1 inb_S2x8x64x256_S1x1x64x256_0_1_0_0))
    (hk : St qB kB vB K c 8 2 0 2 ⊢ Q ⟨k0_pay99 v411 (slab (vB (pt c)) 0 2 inb_S2x8x64x256_S1x1x64x256_0_2_0_0), k0_pay102 v167 v411, k0_pay103 v167 v172 v411, k0_pay104 v167 v176 v411⟩) :
    St qB kB vB K c 8 2 0 1 ⊢ exec c (k0_part17 qM h0 kM h1 vM h2 oM h3 ckM h4 cvM h5 cc0_scratch2 cc0_scratch3 cc0_scratch4 cc0_scratch5 v151 v156 v160 v167 v172 v176 v411 v460 v463 v465) Q := by
  rw [k0_part17_eq_skeleton]
  unfold k0_part17_skel
  simp only [Prog.lift, Prog.bind_op, Prog.bind_ret, Prog.pure_eq_ret]
  refine step_cv 1 rfl (by decide) (by decide) (by decide) (by decide) ?_
  refine step_o fun _ => ?_
  refine step_store (b := 0) (h := 1) rfl (by decide) hw1 ?_
  refine step_cv 1 rfl (by decide) (by decide) (by decide) (by decide) ?_
  exact hk.trans (le_wp_ret _ _ _ _ Q)

/-- Part 18 of the kernel, from the state before it to the state after it. -/
theorem part18 {Q : (PUnit) → sProp (MT nD τ sig Unit (Elt F) ℕ UU ℕ)} (v183 : FVec F S1x256 .f32) (v188 : FVec F S1x256 .f32) (v192 : FVec F S64x256 .f32) (v416 : FVec F S256x256 .f32) (v499 : FVec F S64x256 .f32) (v504 : FVec F S1x256 .f32) (v507 : FVec F S1x256 .f32) (v509 : FVec F S64x256 .f32)
    (hw2 : k0_pay105 v499 v504 v507 v509
      = headOut (slab (qB c) 0 2 inb_S2x8x64x256_S1x1x64x256_0_2_0_0) (slab (kB c) 0 2 inb_S2x8x64x256_S1x1x64x256_0_2_0_0) (slab (vB c) 0 2 inb_S2x8x64x256_S1x1x64x256_0_2_0_0) (slab (kB (pt c)) 0 2 inb_S2x8x64x256_S1x1x64x256_0_2_0_0) (slab (vB (pt c)) 0 2 inb_S2x8x64x256_S1x1x64x256_0_2_0_0))
    (hw3 : k0_pay106 v183 v188 v192 v416 (slab (vB (pt c)) 0 3 inb_S2x8x64x256_S1x1x64x256_0_3_0_0)
      = headOut (slab (qB c) 0 3 inb_S2x8x64x256_S1x1x64x256_0_3_0_0) (slab (kB c) 0 3 inb_S2x8x64x256_S1x1x64x256_0_3_0_0) (slab (vB c) 0 3 inb_S2x8x64x256_S1x1x64x256_0_3_0_0) (slab (kB (pt c)) 0 3 inb_S2x8x64x256_S1x1x64x256_0_3_0_0) (slab (vB (pt c)) 0 3 inb_S2x8x64x256_S1x1x64x256_0_3_0_0))
    (hk : St qB kB vB K c 8 2 0 4 ⊢ Q ⟨⟩) :
    St qB kB vB K c 8 2 0 2 ⊢ exec c (k0_part18 qM h0 kM h1 vM h2 oM h3 ckM h4 cvM h5 cc0_scratch2 cc0_scratch3 cc0_scratch4 cc0_scratch5 v183 v188 v192 v416 v499 v504 v507 v509) Q := by
  rw [k0_part18_eq_skeleton]
  unfold k0_part18_skel
  simp only [Prog.lift, Prog.bind_op, Prog.bind_ret, Prog.pure_eq_ret]
  refine step_o fun _ => ?_
  refine step_store (b := 0) (h := 2) rfl (by decide) hw2 ?_
  refine step_cv 1 rfl (by decide) (by decide) (by decide) (by decide) ?_
  refine step_o fun _ => ?_
  refine step_store (b := 0) (h := 3) rfl (by decide) hw3 ?_
  exact hk.trans (le_wp_ret _ _ _ _ Q)

/-- Part 19 of the kernel, from the state before it to the state after it. -/
theorem part19 {Q : (Σ' (v565 : FVec F S256x256 .f32) (v570 : FVec F S256x256 .f32), FVec F S64x256 .bf16) → sProp (MT nD τ sig Unit (Elt F) ℕ UU ℕ)} (v2 : BitVec 32) (v8 : BitVec 32) (v9 : BitVec 32)
    (hk : St qB kB vB K c 8 3 0 4 ⊢ Q ⟨k0_pay107 (slab (kB (pt c)) 0 4 inb_S2x8x64x256_S1x1x64x256_0_4_0_0) (slab (qB c) 0 4 inb_S2x8x64x256_S1x1x64x256_0_4_0_0), k0_pay108 (slab (kB (pt c)) 0 5 inb_S2x8x64x256_S1x1x64x256_0_5_0_0) (slab (qB c) 0 5 inb_S2x8x64x256_S1x1x64x256_0_5_0_0), k0_pay109 (slab (kB (pt c)) 0 6 inb_S2x8x64x256_S1x1x64x256_0_6_0_0)⟩) :
    St qB kB vB K c 8 2 0 4 ⊢ exec c (k0_part19 qM h0 kM h1 vM h2 oM h3 ckM h4 cvM h5 cc0_scratch2 cc0_scratch3 cc0_scratch4 cc0_scratch5 v2 v8 v9) Q := by
  rw [k0_part19_eq_skeleton]
  unfold k0_part19_skel
  simp only [Prog.lift, Prog.bind_op, Prog.bind_ret, Prog.pure_eq_ret]
  refine step_recv 2 rfl rfl ?_
  refine step_ck 2 rfl (by decide) (by decide) (by decide) (by decide) ?_
  refine step_q ?_
  refine step_ck 2 rfl (by decide) (by decide) (by decide) (by decide) ?_
  refine step_q ?_
  refine step_ck 2 rfl (by decide) (by decide) (by decide) (by decide) ?_
  exact hk.trans (le_wp_ret _ _ _ _ Q)

/-- Part 20 of the kernel, from the state before it to the state after it. -/
theorem part20 {Q : (Σ' (v575 : FVec F S256x256 .f32) (v580 : FVec F S256x256 .f32) (v594 : FVec F S1x256 .f32) (v597 : FVec F S256x256 .f32), FVec F S1x256 .f32) → sProp (MT nD τ sig Unit (Elt F) ℕ UU ℕ)} (v2 : BitVec 32) (v8 : BitVec 32) (v9 : BitVec 32) (v565 : FVec F S256x256 .f32) (v572 : FVec F S64x256 .bf16)
    (hk : St qB kB vB K c 8 4 0 4 ⊢ Q ⟨k0_pay110 v572 (slab (qB c) 0 6 inb_S2x8x64x256_S1x1x64x256_0_6_0_0), k0_pay111 (slab (kB (pt c)) 0 7 inb_S2x8x64x256_S1x1x64x256_0_7_0_0) (slab (qB c) 0 7 inb_S2x8x64x256_S1x1x64x256_0_7_0_0), k0_pay112 v565, k0_pay113 v565, k0_pay114 v565⟩) :
    St qB kB vB K c 8 3 0 4 ⊢ exec c (k0_part20 qM h0 kM h1 vM h2 oM h3 ckM h4 cvM h5 cc0_scratch2 cc0_scratch3 cc0_scratch4 cc0_scratch5 v2 v8 v9 v565 v572) Q := by
  rw [k0_part20_eq_skeleton]
  unfold k0_part20_skel
  simp only [Prog.lift, Prog.bind_op, Prog.bind_ret, Prog.pure_eq_ret]
  refine step_q ?_
  refine step_ck 2 rfl (by decide) (by decide) (by decide) (by decide) ?_
  refine step_q ?_
  refine step_recv 3 rfl rfl ?_
  exact hk.trans (le_wp_ret _ _ _ _ Q)

/-- Part 21 of the kernel, from the state before it to the state after it. -/
theorem part21 {Q : (Σ' (v633 : FVec F S64x256 .f32) (v638 : FVec F S1x256 .f32) (v641 : FVec F S1x256 .f32), FVec F S64x256 .f32) → sProp (MT nD τ sig Unit (Elt F) ℕ UU ℕ)} (v199 : FVec F S1x256 .f32) (v204 : FVec F S1x256 .f32) (v208 : FVec F S64x256 .f32) (v215 : FVec F S1x256 .f32) (v220 : FVec F S1x256 .f32) (v224 : FVec F S64x256 .f32) (v570 : FVec F S256x256 .f32) (v594 : FVec F S1x256 .f32) (v597 : FVec F S256x256 .f32) (v599 : FVec F S1x256 .f32)
    (hw4 : k0_pay115 v199 v204 v208 v594 v597 v599 (slab (vB (pt c)) 0 4 inb_S2x8x64x256_S1x1x64x256_0_4_0_0)
      = headOut (slab (qB c) 0 4 inb_S2x8x64x256_S1x1x64x256_0_4_0_0) (slab (kB c) 0 4 inb_S2x8x64x256_S1x1x64x256_0_4_0_0) (slab (vB c) 0 4 inb_S2x8x64x256_S1x1x64x256_0_4_0_0) (slab (kB (pt c)) 0 4 inb_S2x8x64x256_S1x1x64x256_0_4_0_0) (slab (vB (pt c)) 0 4 inb_S2x8x64x256_S1x1x64x256_0_4_0_0))
    (hk : St qB kB vB K c 8 4 0 5 ⊢ Q ⟨k0_pay118 v570 (slab (vB (pt c)) 0 5 inb_S2x8x64x256_S1x1x64x256_0_5_0_0), k0_pay121 v215 v570, k0_pay122 v215 v220 v570, k0_pay123 v215 v224 v570⟩) :
    St qB kB vB K c 8 4 0 4 ⊢ exec c (k0_part21 qM h0 kM h1 vM h2 oM h3 ckM h4 cvM h5 cc0_scratch2 cc0_scratch3 cc0_scratch4 cc0_scratch5 v199 v204 v208 v215 v220 v224 v570 v594 v597 v599) Q := by
  rw [k0_part21_eq_skeleton]
  unfold k0_part21_skel
  simp only [Prog.lift, Prog.bind_op, Prog.bind_ret, Prog.pure_eq_ret]
  refine step_cv 3 rfl (by decide) (by decide) (by decide) (by decide) ?_
  refine step_o fun _ => ?_
  refine step_store (b := 0) (h := 4) rfl (by decide) hw4 ?_
  refine step_cv 3 rfl (by decide) (by decide) (by decide) (by decide) ?_
  exact hk.trans (le_wp_ret _ _ _ _ Q)

/-- Part 22 of the kernel, from the state before it to the state after it. -/
theorem part22 {Q : (Σ' (v684 : FVec F S1x256 .f32), FVec F S256x256 .f32) → sProp (MT nD τ sig Unit (Elt F) ℕ UU ℕ)} (v231 : FVec F S1x256 .f32) (v236 : FVec F S1x256 .f32) (v240 : FVec F S64x256 .f32) (v575 : FVec F S256x256 .f32) (v580 : FVec F S256x256 .f32) (v633 : FVec F S64x256 .f32) (v638 : FVec F S1x256 .f32) (v641 : FVec F S1x256 .f32) (v643 : FVec F S64x256 .f32)
    (hw5 : k0_pay124 v633 v638 v641 v643
      = headOut (slab (qB c) 0 5 inb_S2x8x64x256_S1x1x64x256_0_5_0_0) (slab (kB c) 0 5 inb_S2x8x64x256_S1x1x64x256_0_5_0_0) (slab (vB c) 0 5 inb_S2x8x64x256_S1x1x64x256_0_5_0_0) (slab (kB (pt c)) 0 5 inb_S2x8x64x256_S1x1x64x256_0_5_0_0) (slab (vB (pt c)) 0 5 inb_S2x8x64x256_S1x1x64x256_0_5_0_0))
    (hw6 : k0_pay125 v231 v236 v240 v575 (slab (vB (pt c)) 0 6 inb_S2x8x64x256_S1x1x64x256_0_6_0_0)
      = headOut (slab (qB c) 0 6 inb_S2x8x64x256_S1x1x64x256_0_6_0_0) (slab (kB c) 0 6 inb_S2x8x64x256_S1x1x64x256_0_6_0_0) (slab (vB c) 0 6 inb_S2x8x64x256_S1x1x64x256_0_6_0_0) (slab (kB (pt c)) 0 6 inb_S2x8x64x256_S1x1x64x256_0_6_0_0) (slab (vB (pt c)) 0 6 inb_S2x8x64x256_S1x1x64x256_0_6_0_0))
    (hk : St qB kB vB K c 8 4 0 7 ⊢ Q ⟨k0_pay126 v580, k0_pay127 v580⟩) :
    St qB kB vB K c 8 4 0 5 ⊢ exec c (k0_part22 qM h0 kM h1 vM h2 oM h3 ckM h4 cvM h5 cc0_scratch2 cc0_scratch3 cc0_scratch4 cc0_scratch5 v231 v236 v240 v575 v580 v633 v638 v641 v643) Q := by
  rw [k0_part22_eq_skeleton]
  unfold k0_part22_skel
  simp only [Prog.lift, Prog.bind_op, Prog.bind_ret, Prog.pure_eq_ret]
  refine step_o fun _ => ?_
  refine step_store (b := 0) (h := 5) rfl (by decide) hw5 ?_
  refine step_cv 3 rfl (by decide) (by decide) (by decide) (by decide) ?_
  refine step_o fun _ => ?_
  refine step_store (b := 0) (h := 6) rfl (by decide) hw6 ?_
  exact hk.trans (le_wp_ret _ _ _ _ Q)

/-- Part 23 of the kernel, from the state before it to the state after it. -/
theorem part23 {Q : (PUnit) → sProp (MT nD τ sig Unit (Elt F) ℕ UU ℕ)} (v2 : BitVec 32) (v8 : BitVec 32) (v9 : BitVec 32) (v247 : FVec F S1x256 .f32) (v252 : FVec F S1x256 .f32) (v256 : FVec F S64x256 .f32) (v580 : FVec F S256x256 .f32) (v684 : FVec F S1x256 .f32) (v685 : FVec F S256x256 .f32)
    (hw7 : k0_pay128 v247 v252 v256 v580 v684 v685 (slab (vB (pt c)) 0 7 inb_S2x8x64x256_S1x1x64x256_0_7_0_0)
      = headOut (slab (qB c) 0 7 inb_S2x8x64x256_S1x1x64x256_0_7_0_0) (slab (kB c) 0 7 inb_S2x8x64x256_S1x1x64x256_0_7_0_0) (slab (vB c) 0 7 inb_S2x8x64x256_S1x1x64x256_0_7_0_0) (slab (kB (pt c)) 0 7 inb_S2x8x64x256_S1x1x64x256_0_7_0_0) (slab (vB (pt c)) 0 7 inb_S2x8x64x256_S1x1x64x256_0_7_0_0))
    (hk : St qB kB vB K c 8 4 0 8 ⊢ Q ⟨⟩) :
    St qB kB vB K c 8 4 0 7 ⊢ exec c (k0_part23 qM h0 kM h1 vM h2 oM h3 ckM h4 cvM h5 cc0_scratch2 cc0_scratch3 cc0_scratch4 cc0_scratch5 v2 v8 v9 v247 v252 v256 v580 v684 v685) Q := by
  rw [k0_part23_eq_skeleton]
  unfold k0_part23_skel
  simp only [Prog.lift, Prog.bind_op, Prog.bind_ret, Prog.pure_eq_ret]
  refine step_cv 3 rfl (by decide) (by decide) (by decide) (by decide) ?_
  refine step_o fun _ => ?_
  refine step_store (b := 0) (h := 7) rfl (by decide) hw7 ?_
  exact hk.trans (le_wp_ret _ _ _ _ Q)

/-- Part 24 of the kernel, from the state before it to the state after it. -/
theorem part24 {Q : (Σ' (v729 : FVec F S256x256 .f32) (v734 : FVec F S256x256 .f32) (v739 : FVec F S256x256 .f32) (v741 : FVec F S64x256 .bf16), Vec F S1x1x64x256 .bf16) → sProp (MT nD τ sig Unit (Elt F) ℕ UU ℕ)}
    (hk : St qB kB vB K c 8 5 0 8 ⊢ Q ⟨k0_pay129 (slab (kB (pt c)) 1 0 inb_S2x8x64x256_S1x1x64x256_1_0_0_0) (slab (qB c) 1 0 inb_S2x8x64x256_S1x1x64x256_1_0_0_0), k0_pay130 (slab (kB (pt c)) 1 1 inb_S2x8x64x256_S1x1x64x256_1_1_0_0) (slab (qB c) 1 1 inb_S2x8x64x256_S1x1x64x256_1_1_0_0), k0_pay131 (slab (kB (pt c)) 1 2 inb_S2x8x64x256_S1x1x64x256_1_2_0_0) (slab (qB c) 1 2 inb_S2x8x64x256_S1x1x64x256_1_2_0_0), k0_pay132 (slab (kB (pt c)) 1 3 inb_S2x8x64x256_S1x1x64x256_1_3_0_0), (slab (qB c) 1 3 inb_S2x8x64x256_S1x1x64x256_1_3_0_0)⟩) :
    St qB kB vB K c 8 4 0 8 ⊢ exec c (k0_part24 qM h0 kM h1 vM h2 oM h3 ckM h4 cvM h5 cc0_scratch2 cc0_scratch3 cc0_scratch4 cc0_scratch5) Q := by
  rw [k0_part24_eq_skeleton]
  unfold k0_part24_skel
  simp only [Prog.lift, Prog.bind_op, Prog.bind_ret, Prog.pure_eq_ret]
  refine step_recv 4 rfl rfl ?_
  refine step_ck 4 rfl (by decide) (by decide) (by decide) (by decide) ?_
  refine step_q ?_
  refine step_ck 4 rfl (by decide) (by decide) (by decide) (by decide) ?_
  refine step_q ?_
  refine step_ck 4 rfl (by decide) (by decide) (by decide) (by decide) ?_
  refine step_q ?_
  refine step_ck 4 rfl (by decide) (by decide) (by decide) (by decide) ?_
  refine step_q ?_
  exact hk.trans (le_wp_ret _ _ _ _ Q)

end Cert.Exchange
end
-- ==== Proof.Parts4.lean ====
/-
  The parts that store the second batch entry's heads, and the first waits for the copies to have left.
-/
module

public import proofs.«01_k».proof.Proof.Steps

@[expose] public section

set_option maxRecDepth 8192

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {qB kB vB : Dev nD → Blk F} {K : GSem nD τ sig → ℕ} {c : Dev nD}
variable {h0 : qM.IsWhole} {h1 : kM.IsWhole} {h2 : vM.IsWhole} {h3 : oM.IsWhole} {h4 : ckM.IsWhole} {h5 : cvM.IsWhole}

/-- Part 25 of the kernel, from the state before it to the state after it. -/
theorem part25 {Q : (Σ' (v744 : FVec F S256x256 .f32) (v767 : FVec F S64x256 .f32) (v772 : FVec F S1x256 .f32) (v775 : FVec F S1x256 .f32), FVec F S64x256 .f32) → sProp (MT nD τ sig Unit (Elt F) ℕ UU ℕ)} (v2 : BitVec 32) (v8 : BitVec 32) (v9 : BitVec 32) (v263 : FVec F S1x256 .f32) (v268 : FVec F S1x256 .f32) (v272 : FVec F S64x256 .f32) (v729 : FVec F S256x256 .f32) (v741 : FVec F S64x256 .bf16) (v742 : Vec F S1x1x64x256 .bf16)
    (hk : St qB kB vB K c 8 6 0 8 ⊢ Q ⟨k0_pay133 v741 v742, k0_pay136 v729 (slab (vB (pt c)) 1 0 inb_S2x8x64x256_S1x1x64x256_1_0_0_0), k0_pay139 v263 v729, k0_pay140 v263 v268 v729, k0_pay141 v263 v272 v729⟩) :
    St qB kB vB K c 8 5 0 8 ⊢ exec c (k0_part25 qM h0 kM h1 vM h2 oM h3 ckM h4 cvM h5 cc0_scratch2 cc0_scratch3 cc0_scratch4 cc0_scratch5 v2 v8 v9 v263 v268 v272 v729 v741 v742) Q := by
  rw [k0_part25_eq_skeleton]
  unfold k0_part25_skel
  simp only [Prog.lift, Prog.bind_op, Prog.bind_ret, Prog.pure_eq_ret]
  refine step_recv 5 rfl rfl ?_
  refine step_cv 5 rfl (by decide) (by decide) (by decide) (by decide) ?_
  exact hk.trans (le_wp_ret _ _ _ _ Q)

/-- Part 26 of the kernel, from the state before it to the state after it. -/
theorem part26 {Q : (Σ' (v818 : FVec F S1x256 .f32), FVec F S256x256 .f32) → sProp (MT nD τ sig Unit (Elt F) ℕ UU ℕ)} (v279 : FVec F S1x256 .f32) (v284 : FVec F S1x256 .f32) (v288 : FVec F S64x256 .f32) (v734 : FVec F S256x256 .f32) (v739 : FVec F S256x256 .f32) (v767 : FVec F S64x256 .f32) (v772 : FVec F S1x256 .f32) (v775 : FVec F S1x256 .f32) (v777 : FVec F S64x256 .f32)
    (hw8 : k0_pay142 v767 v772 v775 v777
      = headOut (slab (qB c) 1 0 inb_S2x8x64x256_S1x1x64x256_1_0_0_0) (slab (kB c) 1 0 inb_S2x8x64x256_S1x1x64x256_1_0_0_0) (slab (vB c) 1 0 inb_S2x8x64x256_S1x1x64x256_1_0_0_0) (slab (kB (pt c)) 1 0 inb_S2x8x64x256_S1x1x64x256_1_0_0_0) (slab (vB (pt c)) 1 0 inb_S2x8x64x256_S1x1x64x256_1_0_0_0))
    (hw9 : k0_pay143 v279 v284 v288 v734 (slab (vB (pt c)) 1 1 inb_S2x8x64x256_S1x1x64x256_1_1_0_0)
      = headOut (slab (qB c) 1 1 inb_S2x8x64x256_S1x1x64x256_1_1_0_0) (slab (kB c) 1 1 inb_S2x8x64x256_S1x1x64x256_1_1_0_0) (slab (vB c) 1 1 inb_S2x8x64x256_S1x1x64x256_1_1_0_0) (slab (kB (pt c)) 1 1 inb_S2x8x64x256_S1x1x64x256_1_1_0_0) (slab (vB (pt c)) 1 1 inb_S2x8x64x256_S1x1x64x256_1_1_0_0))
    (hk : St qB kB vB K c 8 6 0 10 ⊢ Q ⟨k0_pay144 v739, k0_pay145 v739⟩) :
    St qB kB vB K c 8 6 0 8 ⊢ exec c (k0_part26 qM h0 kM h1 vM h2 oM h3 ckM h4 cvM h5 cc0_scratch2 cc0_scratch3 cc0_scratch4 cc0_scratch5 v279 v284 v288 v734 v739 v767 v772 v775 v777) Q := by
  rw [k0_part26_eq_skeleton]
  unfold k0_part26_skel
  simp only [Prog.lift, Prog.bind_op, Prog.bind_ret, Prog.pure_eq_ret]
  refine step_o fun _ => ?_
  refine step_store (b := 1) (h := 0) rfl (by decide) hw8 ?_
  refine step_cv 5 rfl (by decide) (by decide) (by decide) (by decide) ?_
  refine step_o fun _ => ?_
  refine step_store (b := 1) (h := 1) rfl (by decide) hw9 ?_
  exact hk.trans (le_wp_ret _ _ _ _ Q)

/-- Part 27 of the kernel, from the state before it to the state after it. -/
theorem part27 {Q : (Σ' (v853 : FVec F S1x256 .f32) (v857 : FVec F S64x256 .f32) (v860 : FVec F S1x256 .f32), FVec F S1x256 .f32) → sProp (MT nD τ sig Unit (Elt F) ℕ UU ℕ)} (v295 : FVec F S1x256 .f32) (v300 : FVec F S1x256 .f32) (v304 : FVec F S64x256 .f32) (v311 : FVec F S1x256 .f32) (v739 : FVec F S256x256 .f32) (v744 : FVec F S256x256 .f32) (v818 : FVec F S1x256 .f32) (v819 : FVec F S256x256 .f32)
    (hw10 : k0_pay146 v295 v300 v304 v739 v818 v819 (slab (vB (pt c)) 1 2 inb_S2x8x64x256_S1x1x64x256_1_2_0_0)
      = headOut (slab (qB c) 1 2 inb_S2x8x64x256_S1x1x64x256_1_2_0_0) (slab (kB c) 1 2 inb_S2x8x64x256_S1x1x64x256_1_2_0_0) (slab (vB c) 1 2 inb_S2x8x64x256_S1x1x64x256_1_2_0_0) (slab (kB (pt c)) 1 2 inb_S2x8x64x256_S1x1x64x256_1_2_0_0) (slab (vB (pt c)) 1 2 inb_S2x8x64x256_S1x1x64x256_1_2_0_0))
    (hk : St qB kB vB K c 8 6 0 11 ⊢ Q ⟨k0_pay149 v744, k0_pay150 v744 (slab (vB (pt c)) 1 3 inb_S2x8x64x256_S1x1x64x256_1_3_0_0), k0_pay152 v311 v744, k0_pay153 v311 v744⟩) :
    St qB kB vB K c 8 6 0 10 ⊢ exec c (k0_part27 qM h0 kM h1 vM h2 oM h3 ckM h4 cvM h5 cc0_scratch2 cc0_scratch3 cc0_scratch4 cc0_scratch5 v295 v300 v304 v311 v739 v744 v818 v819) Q := by
  rw [k0_part27_eq_skeleton]
  unfold k0_part27_skel
  simp only [Prog.lift, Prog.bind_op, Prog.bind_ret, Prog.pure_eq_ret]
  refine step_cv 5 rfl (by decide) (by decide) (by decide) (by decide) ?_
  refine step_o fun _ => ?_
  refine step_store (b := 1) (h := 2) rfl (by decide) hw10 ?_
  refine step_cv 5 rfl (by decide) (by decide) (by decide) (by decide) ?_
  exact hk.trans (le_wp_ret _ _ _ _ Q)

/-- Part 28 of the kernel, from the state before it to the state after it. -/
theorem part28 {Q : (Σ' (v890 : FVec F S64x256 .bf16), Vec F S1x1x64x256 .bf16) → sProp (MT nD τ sig Unit (Elt F) ℕ UU ℕ)} (v2 : BitVec 32) (v8 : BitVec 32) (v9 : BitVec 32) (v316 : FVec F S1x256 .f32) (v320 : FVec F S64x256 .f32) (v853 : FVec F S1x256 .f32) (v857 : FVec F S64x256 .f32) (v860 : FVec F S1x256 .f32) (v861 : FVec F S1x256 .f32)
    (hw11 : k0_pay154 v316 v320 v853 v857 v860 v861
      = headOut (slab (qB c) 1 3 inb_S2x8x64x256_S1x1x64x256_1_3_0_0) (slab (kB c) 1 3 inb_S2x8x64x256_S1x1x64x256_1_3_0_0) (slab (vB c) 1 3 inb_S2x8x64x256_S1x1x64x256_1_3_0_0) (slab (kB (pt c)) 1 3 inb_S2x8x64x256_S1x1x64x256_1_3_0_0) (slab (vB (pt c)) 1 3 inb_S2x8x64x256_S1x1x64x256_1_3_0_0))
    (hk : St qB kB vB K c 8 7 0 12 ⊢ Q ⟨k0_pay155 (slab (kB (pt c)) 1 4 inb_S2x8x64x256_S1x1x64x256_1_4_0_0), (slab (qB c) 1 4 inb_S2x8x64x256_S1x1x64x256_1_4_0_0)⟩) :
    St qB kB vB K c 8 6 0 11 ⊢ exec c (k0_part28 qM h0 kM h1 vM h2 oM h3 ckM h4 cvM h5 cc0_scratch2 cc0_scratch3 cc0_scratch4 cc0_scratch5 v2 v8 v9 v316 v320 v853 v857 v860 v861) Q := by
  rw [k0_part28_eq_skeleton]
  unfold k0_part28_skel
  simp only [Prog.lift, Prog.bind_op, Prog.bind_ret, Prog.pure_eq_ret]
  refine step_o fun _ => ?_
  refine step_store (b := 1) (h := 3) rfl (by decide) hw11 ?_
  refine step_recv 6 rfl rfl ?_
  refine step_ck 6 rfl (by decide) (by decide) (by decide) (by decide) ?_
  refine step_q ?_
  exact hk.trans (le_wp_ret _ _ _ _ Q)

/-- Part 29 of the kernel, from the state before it to the state after it. -/
theorem part29 {Q : (Σ' (v893 : FVec F S256x256 .f32) (v898 : FVec F S256x256 .f32) (v903 : FVec F S256x256 .f32) (v908 : FVec F S256x256 .f32) (v912 : BitVec 32), BitVec 32) → sProp (MT nD τ sig Unit (Elt F) ℕ UU ℕ)} (v2 : BitVec 32) (v8 : BitVec 32) (v9 : BitVec 32) (v890 : FVec F S64x256 .bf16) (v891 : Vec F S1x1x64x256 .bf16)
    (hk : St qB kB vB K c 8 7 0 12 ⊢ Q ⟨k0_pay156 v890 v891, k0_pay157 (slab (kB (pt c)) 1 5 inb_S2x8x64x256_S1x1x64x256_1_5_0_0) (slab (qB c) 1 5 inb_S2x8x64x256_S1x1x64x256_1_5_0_0), k0_pay158 (slab (kB (pt c)) 1 6 inb_S2x8x64x256_S1x1x64x256_1_6_0_0) (slab (qB c) 1 6 inb_S2x8x64x256_S1x1x64x256_1_6_0_0), k0_pay159 (slab (kB (pt c)) 1 7 inb_S2x8x64x256_S1x1x64x256_1_7_0_0) (slab (qB c) 1 7 inb_S2x8x64x256_S1x1x64x256_1_7_0_0), (Scalar.addi (Scalar.addi 0#32 (Scalar.muli v2 8#32)) (Scalar.muli v9 4#32)), (Scalar.muli v8 1#32)⟩) :
    St qB kB vB K c 8 7 0 12 ⊢ exec c (k0_part29 qM h0 kM h1 vM h2 oM h3 ckM h4 cvM h5 cc0_scratch2 cc0_scratch3 cc0_scratch4 cc0_scratch5 v2 v8 v9 v890 v891) Q := by
  rw [k0_part29_eq_skeleton]
  unfold k0_part29_skel
  simp only [Prog.lift, Prog.bind_op, Prog.bind_ret, Prog.pure_eq_ret]
  refine step_ck 6 rfl (by decide) (by decide) (by decide) (by decide) ?_
  refine step_q ?_
  refine step_ck 6 rfl (by decide) (by decide) (by decide) (by decide) ?_
  refine step_q ?_
  refine step_ck 6 rfl (by decide) (by decide) (by decide) (by decide) ?_
  refine step_q ?_
  exact hk.trans (le_wp_ret _ _ _ _ Q)

/-- Part 30 of the kernel, from the state before it to the state after it. -/
theorem part30 {Q : (Σ' (v952 : FVec F S1x256 .f32), FVec F S256x256 .f32) → sProp (MT nD τ sig Unit (Elt F) ℕ UU ℕ)} (v327 : FVec F S1x256 .f32) (v332 : FVec F S1x256 .f32) (v336 : FVec F S64x256 .f32) (v893 : FVec F S256x256 .f32) (v898 : FVec F S256x256 .f32) (v912 : BitVec 32) (v913 : BitVec 32)
    (hw12 : k0_pay160 v327 v332 v336 v893 (slab (vB (pt c)) 1 4 inb_S2x8x64x256_S1x1x64x256_1_4_0_0)
      = headOut (slab (qB c) 1 4 inb_S2x8x64x256_S1x1x64x256_1_4_0_0) (slab (kB c) 1 4 inb_S2x8x64x256_S1x1x64x256_1_4_0_0) (slab (vB c) 1 4 inb_S2x8x64x256_S1x1x64x256_1_4_0_0) (slab (kB (pt c)) 1 4 inb_S2x8x64x256_S1x1x64x256_1_4_0_0) (slab (vB (pt c)) 1 4 inb_S2x8x64x256_S1x1x64x256_1_4_0_0))
    (hk : St qB kB vB K c 8 8 0 13 ⊢ Q ⟨k0_pay161 v898, k0_pay162 v898⟩) :
    St qB kB vB K c 8 7 0 12 ⊢ exec c (k0_part30 qM h0 kM h1 vM h2 oM h3 ckM h4 cvM h5 cc0_scratch2 cc0_scratch3 cc0_scratch4 cc0_scratch5 v327 v332 v336 v893 v898 v912 v913) Q := by
  rw [k0_part30_eq_skeleton]
  unfold k0_part30_skel
  simp only [Prog.lift, Prog.bind_op, Prog.bind_ret, Prog.pure_eq_ret]
  refine step_recv 7 rfl rfl ?_
  refine step_cv 7 rfl (by decide) (by decide) (by decide) (by decide) ?_
  refine step_o fun _ => ?_
  refine step_store (b := 1) (h := 4) rfl (by decide) hw12 ?_
  exact hk.trans (le_wp_ret _ _ _ _ Q)

/-- Part 31 of the kernel, from the state before it to the state after it. -/
theorem part31 {Q : (Σ' (v987 : FVec F S1x256 .f32) (v991 : FVec F S64x256 .f32) (v994 : FVec F S1x256 .f32), FVec F S1x256 .f32) → sProp (MT nD τ sig Unit (Elt F) ℕ UU ℕ)} (v343 : FVec F S1x256 .f32) (v348 : FVec F S1x256 .f32) (v352 : FVec F S64x256 .f32) (v359 : FVec F S1x256 .f32) (v898 : FVec F S256x256 .f32) (v903 : FVec F S256x256 .f32) (v952 : FVec F S1x256 .f32) (v953 : FVec F S256x256 .f32)
    (hw13 : k0_pay163 v343 v348 v352 v898 v952 v953 (slab (vB (pt c)) 1 5 inb_S2x8x64x256_S1x1x64x256_1_5_0_0)
      = headOut (slab (qB c) 1 5 inb_S2x8x64x256_S1x1x64x256_1_5_0_0) (slab (kB c) 1 5 inb_S2x8x64x256_S1x1x64x256_1_5_0_0) (slab (vB c) 1 5 inb_S2x8x64x256_S1x1x64x256_1_5_0_0) (slab (kB (pt c)) 1 5 inb_S2x8x64x256_S1x1x64x256_1_5_0_0) (slab (vB (pt c)) 1 5 inb_S2x8x64x256_S1x1x64x256_1_5_0_0))
    (hk : St qB kB vB K c 8 8 0 14 ⊢ Q ⟨k0_pay166 v903, k0_pay167 v903 (slab (vB (pt c)) 1 6 inb_S2x8x64x256_S1x1x64x256_1_6_0_0), k0_pay169 v359 v903, k0_pay170 v359 v903⟩) :
    St qB kB vB K c 8 8 0 13 ⊢ exec c (k0_part31 qM h0 kM h1 vM h2 oM h3 ckM h4 cvM h5 cc0_scratch2 cc0_scratch3 cc0_scratch4 cc0_scratch5 v343 v348 v352 v359 v898 v903 v952 v953) Q := by
  rw [k0_part31_eq_skeleton]
  unfold k0_part31_skel
  simp only [Prog.lift, Prog.bind_op, Prog.bind_ret, Prog.pure_eq_ret]
  refine step_cv 7 rfl (by decide) (by decide) (by decide) (by decide) ?_
  refine step_o fun _ => ?_
  refine step_store (b := 1) (h := 5) rfl (by decide) hw13 ?_
  refine step_cv 7 rfl (by decide) (by decide) (by decide) (by decide) ?_
  exact hk.trans (le_wp_ret _ _ _ _ Q)

/-- Part 32 of the kernel, from the state before it to the state after it. -/
theorem part32 {Q : (FVec F S64x256 .bf16) → sProp (MT nD τ sig Unit (Elt F) ℕ UU ℕ)} (v364 : FVec F S1x256 .f32) (v368 : FVec F S64x256 .f32) (v375 : FVec F S1x256 .f32) (v380 : FVec F S1x256 .f32) (v384 : FVec F S64x256 .f32) (v908 : FVec F S256x256 .f32) (v987 : FVec F S1x256 .f32) (v991 : FVec F S64x256 .f32) (v994 : FVec F S1x256 .f32) (v995 : FVec F S1x256 .f32)
    (hw14 : k0_pay171 v364 v368 v987 v991 v994 v995
      = headOut (slab (qB c) 1 6 inb_S2x8x64x256_S1x1x64x256_1_6_0_0) (slab (kB c) 1 6 inb_S2x8x64x256_S1x1x64x256_1_6_0_0) (slab (vB c) 1 6 inb_S2x8x64x256_S1x1x64x256_1_6_0_0) (slab (kB (pt c)) 1 6 inb_S2x8x64x256_S1x1x64x256_1_6_0_0) (slab (vB (pt c)) 1 6 inb_S2x8x64x256_S1x1x64x256_1_6_0_0))
    (hk : St qB kB vB K c 8 8 0 15 ⊢ Q (k0_pay172 v375 v380 v384 v908 (slab (vB (pt c)) 1 7 inb_S2x8x64x256_S1x1x64x256_1_7_0_0))) :
    St qB kB vB K c 8 8 0 14 ⊢ exec c (k0_part32 qM h0 kM h1 vM h2 oM h3 ckM h4 cvM h5 cc0_scratch2 cc0_scratch3 cc0_scratch4 cc0_scratch5 v364 v368 v375 v380 v384 v908 v987 v991 v994 v995) Q := by
  rw [k0_part32_eq_skeleton]
  unfold k0_part32_skel
  simp only [Prog.lift, Prog.bind_op, Prog.bind_ret, Prog.pure_eq_ret]
  refine step_o fun _ => ?_
  refine step_store (b := 1) (h := 6) rfl (by decide) hw14 ?_
  refine step_cv 7 rfl (by decide) (by decide) (by decide) (by decide) ?_
  refine step_o fun _ => ?_
  exact hk.trans (le_wp_ret _ _ _ _ Q)

/-- Part 33 of the kernel, from the state before it to the state after it. -/
theorem part33 {Q : (PUnit) → sProp (MT nD τ sig Unit (Elt F) ℕ UU ℕ)} (v1037 : FVec F S64x256 .bf16)
    (hw15 : k0_pay173 v1037
      = headOut (slab (qB c) 1 7 inb_S2x8x64x256_S1x1x64x256_1_7_0_0) (slab (kB c) 1 7 inb_S2x8x64x256_S1x1x64x256_1_7_0_0) (slab (vB c) 1 7 inb_S2x8x64x256_S1x1x64x256_1_7_0_0) (slab (kB (pt c)) 1 7 inb_S2x8x64x256_S1x1x64x256_1_7_0_0) (slab (vB (pt c)) 1 7 inb_S2x8x64x256_S1x1x64x256_1_7_0_0))
    (hk : St qB kB vB K c 8 8 2 16 ⊢ Q ⟨⟩) :
    St qB kB vB K c 8 8 0 15 ⊢ exec c (k0_part33 qM h0 kM h1 vM h2 oM h3 ckM h4 cvM h5 cc0_scratch2 cc0_scratch3 cc0_scratch4 cc0_scratch5 v1037) Q := by
  rw [k0_part33_eq_skeleton]
  unfold k0_part33_skel
  simp only [Prog.lift, Prog.bind_op, Prog.bind_ret, Prog.pure_eq_ret]
  refine step_store (b := 1) (h := 7) rfl (by decide) hw15 ?_
  refine step_sent 0 rfl rfl ?_
  refine step_sent 1 rfl rfl ?_
  exact hk.trans (le_wp_ret _ _ _ _ Q)

/-- Part 34 of the kernel, from the state before it to the state after it. -/
theorem part34 {Q : (PUnit) → sProp (MT nD τ sig Unit (Elt F) ℕ UU ℕ)}
    (hk : St qB kB vB K c 8 8 5 16 ⊢ Q ⟨⟩) :
    St qB kB vB K c 8 8 2 16 ⊢ exec c (k0_part34 qM h0 kM h1 vM h2 oM h3 ckM h4 cvM h5 cc0_scratch2 cc0_scratch3 cc0_scratch4 cc0_scratch5) Q := by
  rw [k0_part34_eq_skeleton]
  unfold k0_part34_skel
  simp only [Prog.lift, Prog.bind_op, Prog.bind_ret, Prog.pure_eq_ret]
  refine step_sent 2 rfl rfl ?_
  refine step_sent 3 rfl rfl ?_
  refine step_sent 4 rfl rfl ?_
  exact hk.trans (le_wp_ret _ _ _ _ Q)

end Cert.Exchange
end
-- ==== Proof.Body.lean ====
/-
  The whole body on device c: the handshake with the partner, then the parts in order, then the semaphores closed.
-/
module

public import proofs.«01_k».proof.Proof.Chunks
public import proofs.«01_k».proof.Proof.Parts1
public import proofs.«01_k».proof.Proof.Parts2
public import proofs.«01_k».proof.Proof.Parts3
public import proofs.«01_k».proof.Proof.Parts4

@[expose] public section

set_option maxRecDepth 8192

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {qB kB vB : Dev nD → Blk F} {K : GSem nD τ sig → ℕ} {c : Dev nD}
variable {h0 : qM.IsWhole} {h1 : kM.IsWhole} {h2 : vM.IsWhole} {h3 : oM.IsWhole} {h4 : ckM.IsWhole} {h5 : cvM.IsWhole}

local notation "𝕄" => MT nD τ sig Unit (Elt F) ℕ UU ℕ

variable (qB kB vB K c)

/-- What the body starts from: the three blocks, the result's buffer, the scratch buffers as destinations, the ghost state. -/
def Pre : sProp 𝕄 :=
  iprop(opened kB vB K c ∗ creds c ∗ levAts L lv ∗ (bigSep Finset.univ fun j => iprop(∃ f, dstPts c j f))
    ∗ (qM.view.loc (c : Thread nD τ) ↦{fullShare} qB c)
    ∗ (kM.view.loc (c : Thread nD τ) ↦{fullShare.left} kB c)
    ∗ (vM.view.loc (c : Thread nD τ) ↦{fullShare.left} vB c)
    ∗ (bigSep Finset.univ fun j => srcPts kB vB c j)
    ∗ (∃ f : Blk F, oM.view.loc (c : Thread nD τ) ↦{fullShare} f)
    ∗ ∃ W, owes (c : Thread nD τ) (O₀ c) W)

/-- The pieces for the copies, sorted by copy. -/
theorem gather : iprop((bigSep Finset.univ fun j : Fin 8 => iprop(cellInv ER (rd kB vB) (K (sendCell c j)) (sendCell c j)
        ∗ cellInv ER (rd kB vB) (K (recvCell c j)) (recvCell c j)
        ∗ cellInv ER (rd kB vB) (K (recvCell (pt c) j)) (recvCell (pt c) j)))
      ∗ (bigSep Finset.univ fun j : Fin 8 => iprop((atPos ER (sendCell c j) 0 ∅ 0 ∗ reached ER (sendCell c j) 0)
        ∗ (atPos ER (recvCell c j) 0 ∅ 0 ∗ reached ER (recvCell c j) 0)
        ∗ dutyTok ER (sendCell c j) 0 () ∗ dutyTok ER (recvCell (pt c) j) 0 ()))
      ∗ (bigSep Finset.univ fun j : Fin 8 => cred (tallyAt (recvCell c j) () N))
      ∗ (bigSep Finset.univ fun j : Fin 8 => iprop((∃ f, dstPts (pt c) j f) ∗ reached ER (recvCell (pt c) j) 0))
      ∗ (bigSep Finset.univ fun j => srcPts kB vB c j))
    ⊢ (iprop((bigSep Finset.univ fun j => SendRes kB vB K c 0 0 j) ∗ (bigSep Finset.univ fun j => RecvRes kB vB K c 0 j)) : sProp 𝕄) := by
  simp only [← bigSep_sep']
  refine bigSep_mono fun j _ => ?_
  show (_ : sProp 𝕄) ⊢ _
  unfold SendRes RecvRes
  rw [if_neg (Nat.not_lt_zero _), if_neg (Nat.not_lt_zero _), if_neg (Nat.not_lt_zero _)]
  iintro ⟨⟨HI1, HI2, HI3⟩, ⟨⟨Ha1, Hr1⟩, ⟨Ha2, -⟩, Ht1, Ht2⟩, Hc, ⟨Hd, Hr2⟩, Hs⟩
  isplitl [HI1 HI3 Ha1 Hr1 Ht1 Ht2 Hd Hr2 Hs]
  · isplitl [HI1]; · iexact HI1
    isplitl [HI3]; · iexact HI3
    isplitl [Hr1]; · iexact Hr1
    isplitl [Hr2]; · iexact Hr2
    isplitl [Ha1]; · iexact Ha1
    isplitl [Ht1]; · iexact Ht1
    isplitl [Ht2]; · iexact Ht2
    isplitl [Hs]; · iexact Hs
    iexact Hd
  isplitl [HI2]; · iexact HI2
  isplitl [Hc]; · iexact Hc
  iexact Ha2

/-- What the own barrier signal pays to the partner: the own scratch chunks. -/
theorem pay_bar : iprop((bigSep Finset.univ fun j : Fin 8 => iprop(∃ f, dstPts c j f))
      ∗ (bigSep Finset.univ fun j : Fin 8 => iprop((atPos ER (sendCell c j) 0 ∅ 0 ∗ reached ER (sendCell c j) 0)
        ∗ (atPos ER (recvCell c j) 0 ∅ 0 ∗ reached ER (recvCell c j) 0)
        ∗ dutyTok ER (sendCell c j) 0 () ∗ dutyTok ER (recvCell (pt c) j) 0 ())))
    ⊢ (iprop(barPay (pt c) ∗ (bigSep Finset.univ fun j : Fin 8 => iprop((atPos ER (sendCell c j) 0 ∅ 0 ∗ reached ER (sendCell c j) 0)
        ∗ (atPos ER (recvCell c j) 0 ∅ 0 ∗ reached ER (recvCell c j) 0)
        ∗ dutyTok ER (sendCell c j) 0 () ∗ dutyTok ER (recvCell (pt c) j) 0 ()))) : sProp 𝕄) := by
  unfold barPay
  rw [pt_pt]
  simp only [← bigSep_sep']
  refine bigSep_mono fun j _ => ?_
  show (_ : sProp 𝕄) ⊢ _
  iintro ⟨Hd, Hx, ⟨Ha2, #Hr2⟩, Ht⟩
  isplitl [Hd]
  · isplitl [Hd]; · iexact Hd
    iexact Hr2
  isplitl [Hx]; · iexact Hx
  isplitl [Ha2]
  · isplitl [Ha2]; · iexact Ha2
    iexact Hr2
  iexact Ht

variable {qB kB vB K c}

set_option backward.isDefEq.respectTransparency.types false in
/-- Part 1 of the kernel: the handshake. Each device gives the partner its scratch buffers and gets the partner's. -/
theorem part1 {Q : (Σ' (d0 : Dev nD) (v2 : BitVec 32) (v8 : BitVec 32), BitVec 32) → sProp (MT nD τ sig Unit (Elt F) ℕ UU ℕ)}
    (hk : ∀ v2 v8 v9, St qB kB vB K c 0 0 0 0 ⊢ Q ⟨c, v2, v8, v9⟩) :
    Pre qB kB vB K c ⊢ exec c (k0_part1 qM h0 kM h1 vM h2 oM h3 ckM h4 cvM h5 cc0_scratch2 cc0_scratch3 cc0_scratch4 cc0_scratch5) Q := by
  rw [k0_part1_eq_skeleton]
  unfold k0_part1_skel
  simp only [semSignalWord, semWaitWord, Prog.lift, Prog.bind_op, Prog.bind_ret, Prog.pure_eq_ret, wp_deviceId]
  simp only [dev1_eq c]
  unfold Pre opened creds invs O₀
  iintro ⟨⟨⟨#HIb, #HIbp, HIs⟩, HatB, #HrB, HtB, Hg⟩, ⟨HcB, HcR⟩, #Hlev, Hd, Hq, Hk, Hv, Hs, Ho, ⟨%W, HO⟩⟩
  ihave Hp := (pay_bar c) $$ [Hd Hg]
  · isplitl [Hd] <;> iassumption
  icases Hp with ⟨Hp, Hg⟩
  iapply (Rounds.wp_signal 𝒱₀ ER (rd kB vB) (c : Thread nD τ) none (dst := (pt c : Thread nD τ)) (sem := barS) (r := 0) (d := ())
      (κ := K (barCell (pt c))) (by rw [duties_bar]; exact Finset.mem_singleton_self _) rfl () (owed c 0) rfl) $$ [HO HtB Hp]
  · isplitr; · iexact HIbp
    isplitl [HO]; · iexact HO
    isplitl [HtB]; · iexact HtB
    isplitl [Hp]; · rw [payload_bar]; iexact Hp
    iexact HrB
  iintro HO
  iapply (Rounds.wp_wait_rest_token 𝒱₀ ER (rd kB vB) (c : Thread nD τ) none (κ := K (barCell c))
      (wpE_semWait_eq 𝒱₀ (c : Thread nD τ) none Set.univ) (Set.mem_univ _) () (O := owed c 0) (W := W) (R := 0) (m := 0) (T := ∅)
      (by rw [expect_bar]; rfl)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hpay := (Entails.of_eq (rest_bar kB vB c)) $$ Hpay
  unfold barPay
  imod (close kB vB (K (barCell c)) (barCell c)) $$ [HatB] with Hb
  · isplitr; · iexact HIb
    iexact HatB
  ihave HX := (gather kB vB K c) $$ [HIs Hg HcR Hpay Hs]
  · isplitl [HIs]; · iexact HIs
    isplitl [Hg]; · iexact Hg
    isplitl [HcR]; · iexact HcR
    isplitl [Hpay]; · iexact Hpay
    iexact Hs
  icases HX with ⟨HS, HR⟩
  iapply ((hk _ _ _).trans (le_wp_ret _ _ _ _ Q))
  unfold St
  isplitl [Hq Hb]; · isplitl [Hq] <;> iassumption
  isplitl [Hk]; · iexact Hk
  isplitl [Hv]; · iexact Hv
  isplitl [Ho]
  · icases Ho with ⟨%f, Ho⟩
    iexists f
    isplitr; · ipureintro; exact fun x hx => absurd hx (Nat.not_lt_zero _)
    iexact Ho
  isplitl [HS]; · iexact HS
  isplitl [HR]; · iexact HR
  iexists _; iexact HO

/-- The body's parts in order, up to the last three waits. -/
theorem part35 {Q : PUnit → sProp (MT nD τ sig Unit (Elt F) ℕ UU ℕ)} (hk : St qB kB vB K c 8 8 7 16 ⊢ Q ⟨⟩) :
    Pre qB kB vB K c ⊢ exec c (k0_part35 qM h0 kM h1 vM h2 oM h3 ckM h4 cvM h5 cc0_scratch2 cc0_scratch3 cc0_scratch4 cc0_scratch5) Q := by
  rw [k0_part35_eq_skeleton]
  unfold k0_part35_skel
  simp only [wp_bind]
  refine part1 fun v2 v8 v9 => ?_
  try dsimp only
  refine part2 _ _ _ ?_
  try dsimp only
  refine part3 _ _ _ ?_
  try dsimp only
  refine part4 _ _ _ ?_
  try dsimp only
  refine part5 _ _ _ ?_
  try dsimp only
  refine part6 _ _ ?_
  try dsimp only
  refine part7 _ ?_
  try dsimp only
  refine part8 _ ?_
  try dsimp only
  refine part9 _ ?_
  try dsimp only
  refine part10 ?_
  try dsimp only
  refine part11 _ _ ?_
  try dsimp only
  refine part12 _ ?_
  try dsimp only
  refine part13 _ _ ?_
  try dsimp only
  refine part14 _ _ _ _ _ ?_
  try dsimp only
  refine part15 _ _ _ ?_
  try dsimp only
  refine part16 _ _ _ _ _ (by rfl) ?_
  try dsimp only
  refine part17 _ _ _ _ _ _ _ _ _ _ (by rfl) ?_
  try dsimp only
  refine part18 _ _ _ _ _ _ _ _ (by rfl) (by rfl) ?_
  try dsimp only
  refine part19 _ _ _ ?_
  try dsimp only
  refine part20 _ _ _ _ _ ?_
  try dsimp only
  refine part21 _ _ _ _ _ _ _ _ _ _ (by rfl) ?_
  try dsimp only
  refine part22 _ _ _ _ _ _ _ _ _ (by rfl) (by rfl) ?_
  try dsimp only
  refine part23 _ _ _ _ _ _ _ _ _ (by rfl) ?_
  try dsimp only
  refine part24 ?_
  try dsimp only
  refine part25 _ _ _ _ _ _ _ _ _ ?_
  try dsimp only
  refine part26 _ _ _ _ _ _ _ _ _ (by rfl) (by rfl) ?_
  try dsimp only
  refine part27 _ _ _ _ _ _ _ _ (by rfl) ?_
  try dsimp only
  refine part28 _ _ _ _ _ _ _ _ _ (by rfl) ?_
  try dsimp only
  refine part29 _ _ _ _ _ ?_
  try dsimp only
  refine part30 _ _ _ _ _ _ _ (by rfl) ?_
  try dsimp only
  refine part31 _ _ _ _ _ _ _ _ (by rfl) ?_
  try dsimp only
  refine part32 _ _ _ _ _ _ _ _ _ _ (by rfl) ?_
  try dsimp only
  refine part33 _ (by rfl) ?_
  try dsimp only
  refine part34 ?_
  try dsimp only
  simp only [Prog.lift, Prog.pure_eq_ret]
  refine step_sent 5 rfl rfl ?_
  refine BI.Entails.trans ?_ (le_wp_ret _ _ _ _ _)
  refine step_sent 6 rfl rfl ?_
  refine BI.Entails.trans ?_ (le_wp_ret _ _ _ _ _)
  exact hk.trans (le_wp_ret _ _ _ _ Q)

/-- The body: after the last wait every copy is done and every head stored. -/
theorem body {Q : PUnit → sProp (MT nD τ sig Unit (Elt F) ℕ UU ℕ)} (hk : St qB kB vB K c 8 8 8 16 ⊢ Q ⟨⟩) :
    Pre qB kB vB K c ⊢ exec c (cc0_body qM h0 kM h1 vM h2 oM h3 ckM h4 cvM h5 cc0_scratch2 cc0_scratch3 cc0_scratch4 cc0_scratch5) Q := by
  rw [cc0_body_eq_skeleton]
  unfold cc0_body_skel
  simp only [wp_bind]
  refine part35 ?_
  simp only [Prog.lift, Prog.pure_eq_ret]
  refine step_sent 7 rfl rfl ?_
  refine BI.Entails.trans ?_ (le_wp_ret _ _ _ _ _)
  exact hk.trans (le_wp_ret _ _ _ _ Q)

/-! ## From the last state to the buffers and counters -/

variable (qB kB vB K c)

theorem outOK_all {f : Blk F} (h : OutOK qB kB vB c 16 f) : f = outF qB kB vB c := by
  funext x
  have b0 : (x 0).val < 2 := (x 0).isLt
  have b1 : (x 1).val < 8 := (x 1).isLt
  exact h x (by omega)

/-- The sixteen counters of the copies. -/
def sems0 : sProp 𝕄 :=
  iprop((bigSep Finset.univ fun j : Fin 8 => semVal (sendCell c j) 0) ∗ (bigSep Finset.univ fun j : Fin 8 => semVal (recvCell c j) 0))

/-- What the body ends with. -/
def Post : sProp 𝕄 :=
  iprop(semVal (barCell c) 0 ∗ sems0 c
    ∗ (qM.view.loc (c : Thread nD τ) ↦{fullShare} qB c)
    ∗ (kM.view.loc (c : Thread nD τ) ↦{fullShare} kB c)
    ∗ (vM.view.loc (c : Thread nD τ) ↦{fullShare} vB c)
    ∗ (oM.view.loc (c : Thread nD τ) ↦{fullShare} outF qB kB vB c)
    ∗ ((∃ f : Blk F, ckM.view.loc (c : Thread nD τ) ↦{fullShare} f) ∗ (∃ f : Blk F, cvM.view.loc (c : Thread nD τ) ↦{fullShare} f))
    ∗ ∃ W, owes (c : Thread nD τ) (0 : CellTallies nD τ sig Unit) W)

theorem sends_done : (bigSep Finset.univ fun j => SendRes kB vB K c 8 8 j)
    ⊢ (|={Set.univ}=> iprop((bigSep Finset.univ fun j : Fin 8 => semVal (sendCell c j) 0) ∗ (bigSep Finset.univ fun j => srcPts kB vB c j)) : sProp 𝕄) := by
  rw [← bigSep_sep']
  refine BI.Entails.trans (bigSep_mono fun j _ => ?_) (bigSep_fupd _ _)
  show (_ : sProp 𝕄) ⊢ _
  unfold SendRes
  rw [if_pos j.isLt]
  iintro ⟨HI, Hs, Ha⟩
  imod (close kB vB (K (sendCell c j)) (sendCell c j)) $$ [HI Ha] with Hb
  · isplitl [HI] <;> iassumption
  imodintro
  isplitl [Hb] <;> iassumption

theorem recvs_done : (bigSep Finset.univ fun j => RecvRes kB vB K c 8 j)
    ⊢ (|={Set.univ}=> iprop((bigSep Finset.univ fun j : Fin 8 => semVal (recvCell c j) 0) ∗ (bigSep Finset.univ fun j => dstPts c j (dstC kB vB c (isV j)))) : sProp 𝕄) := by
  rw [← bigSep_sep']
  refine BI.Entails.trans (bigSep_mono fun j _ => ?_) (bigSep_fupd _ _)
  show (_ : sProp 𝕄) ⊢ _
  unfold RecvRes
  rw [if_pos j.isLt]
  iintro ⟨HI, Hs, Ha⟩
  imod (close kB vB (K (recvCell c j)) (recvCell c j)) $$ [HI Ha] with Hb
  · isplitl [HI] <;> iassumption
  imodintro
  isplitl [Hb] <;> iassumption

theorem finish : St qB kB vB K c 8 8 8 16 ⊢ (|={Set.univ}=> Post qB kB vB c : sProp 𝕄) := by
  unfold St Post sems0
  rw [owed_done]
  iintro ⟨⟨Hq, Hb⟩, Hk, Hv, ⟨%f, %hf, Ho⟩, HS, HR, HO⟩
  imod (sends_done kB vB K c) $$ HS with ⟨HS, Hsrc⟩
  imod (recvs_done kB vB K c) $$ HR with ⟨HR, Hdst⟩
  imodintro
  ihave Hsrc := (Entails.of_eq (sources kB vB c)) $$ Hsrc
  ihave Hdst := (Entails.of_eq (arrivals kB vB c)) $$ Hdst
  icases Hsrc with ⟨Hk', Hv'⟩
  icases Hdst with ⟨Hck, Hcv⟩
  isplitl [Hb]; · iexact Hb
  isplitl [HS HR]; · isplitl [HS] <;> iassumption
  isplitl [Hq]; · iexact Hq
  isplitl [Hk Hk']
  · iapply (halves (kB c)).2
    isplitl [Hk] <;> iassumption
  isplitl [Hv Hv']
  · iapply (halves (vB c)).2
    isplitl [Hv] <;> iassumption
  isplitl [Ho]; · rw [← outOK_all qB kB vB c hf]; iexact Ho
  isplitl [Hck Hcv]
  · isplitl [Hck]
    · iexists kB (pt c); iexact Hck
    iexists vB (pt c); iexact Hcv
  iexact HO

/-- What the body starts from, the buffers whole. -/
def Start : sProp 𝕄 :=
  iprop(opened kB vB K c ∗ creds c ∗ levAts L lv
    ∗ ((∃ f : Blk F, ckM.view.loc (c : Thread nD τ) ↦{fullShare} f) ∗ (∃ f : Blk F, cvM.view.loc (c : Thread nD τ) ↦{fullShare} f))
    ∗ (qM.view.loc (c : Thread nD τ) ↦{fullShare} qB c)
    ∗ (kM.view.loc (c : Thread nD τ) ↦{fullShare} kB c)
    ∗ (vM.view.loc (c : Thread nD τ) ↦{fullShare} vB c)
    ∗ (∃ f : Blk F, oM.view.loc (c : Thread nD τ) ↦{fullShare} f)
    ∗ ∃ W, owes (c : Thread nD τ) (O₀ c) W)

theorem begin_ : Start qB kB vB K c ⊢ Pre qB kB vB K c := by
  unfold Start Pre
  rw [sources]
  iintro ⟨H1, H2, H3, Hs, Hq, Hk, Hv, Ho⟩
  ihave Hd := (destinations c) $$ Hs
  ihave Hk := (halves (kB c)).1 $$ Hk
  ihave Hv := (halves (vB c)).1 $$ Hv
  icases Hk with ⟨Hk, Hk'⟩
  icases Hv with ⟨Hv, Hv'⟩
  isplitl [H1]; · iexact H1
  isplitl [H2]; · iexact H2
  isplitl [H3]; · iexact H3
  isplitl [Hd]; · iexact Hd
  isplitl [Hq]; · iexact Hq
  isplitl [Hk]; · iexact Hk
  isplitl [Hv]; · iexact Hv
  isplitl [Hk' Hv']; · isplitl [Hk'] <;> iassumption
  iexact Ho

/-- Device c runs the body: from its blocks whole to its result. -/
theorem body_run : Start qB kB vB K c
    ⊢ exec c (cc0_body qM h0 kM h1 vM h2 oM h3 ckM h4 cvM h5 cc0_scratch2 cc0_scratch3 cc0_scratch4 cc0_scratch5) (fun _ => Post qB kB vB c) := by
  refine (begin_ qB kB vB K c).trans ?_
  exact BI.Entails.trans (body (h0 := h0) (h1 := h1) (h2 := h2) (h3 := h3) (h4 := h4) (h5 := h5) (Q := fun _ => iprop(|={Set.univ}=> Post qB kB vB c)) (finish qB kB vB K c))
    (wp_fupd frame (wpE (defs₀ (F := F)) 𝒱₀ (c : Thread nD τ) none) Set.univ _ _)

end Cert.Exchange
end
-- ==== Proof.Region.lean ====
/-
  The kernel between the operations around it: the contents of every buffer at each stage, the pipeline's proof data, the body's
  obligation, and the three segments of the program on one device.
-/
module

public import proofs.«01_k».proof.Proof.Body
public import proofs.«01_k».proof.Proof.Gen.KernelIdeal.Frame
public import Idealize.ShloMosaic.Lib.Pipeline.RegionTalk
public import Idealize.ShloMosaic.Lib.Pipeline.ValueKit.Geometry

@[expose] public section

set_option maxRecDepth 8192

noncomputable section

namespace Cert.Exchange

open Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers of a device at each stage -/

/-- At the launch. -/
def V₀ (c : Dev nD) : Valuation τ sig (Elt F) := fun b => m (c, b)
/-- After the operations before the kernel. -/
def V₁ (c : Dev nD) : Valuation τ sig (Elt F) := StableHlo.after hostOps0 (V₀ m c)
/-- The three blocks the kernel reads. -/
def qB (c : Dev nD) : Blk F := V₁ m c (Proc.devRef .tc main_v4)
def kB (c : Dev nD) : Blk F := V₁ m c (Proc.devRef .tc main_v6)
def vB (c : Dev nD) : Blk F := V₁ m c (Proc.devRef .tc main_v8)
/-- The block it writes. -/
def oB (c : Dev nD) : Blk F := outF (qB m) (kB m) (vB m) c
/-- After the kernel. -/
def V₂ (c : Dev nD) : Valuation τ sig (Elt F) := Function.update (V₁ m c) (Proc.devRef .tc main_v9) (oB m c)
/-- After the operations behind it. -/
def V₃ (c : Dev nD) : Valuation τ sig (Elt F) := StableHlo.after hostOps1 (V₂ m c)

theorem V₂_out (c : Dev nD) : V₂ m c (Proc.devRef .tc main_v9) = oB m c := Function.update_self _ _ _
theorem V₂_ne (c : Dev nD) (b : DevRef τ sig) (h : b ≠ Proc.devRef .tc main_v9) : V₂ m c b = V₁ m c b := Function.update_of_ne h _ _

/-! ## The pipeline's proof data -/

/-- The two scratch buffers, at contents not chosen. -/
def scr (c : Dev nD) : sProp 𝕄 :=
  iprop((∃ f : Blk F, ckM.view.loc (c : Thread nD τ) ↦{fullShare} f) ∗ (∃ f : Blk F, cvM.view.loc (c : Thread nD τ) ↦{fullShare} f))

/-- Before the kernel's one point: the ghost state opened. -/
def Φ₀ (c : Dev nD) : sProp 𝕄 :=
  iprop((∃ K, opened (kB m) (vB m) K c) ∗ creds c ∗ levAts L lv ∗ scr c ∗ ∃ r, prngReg c r)
/-- After it: every counter back at zero. -/
def Φ₁ (c : Dev nD) : sProp 𝕄 :=
  iprop(semVal (barCell c) 0 ∗ sems0 c ∗ scr c ∗ ∃ r, prngReg c r)

/-- The proof data: the input blocks stay, the output block is `oB`; all debts are paid within the one point. -/
def dat (c : Dev nD) : Dat τ (Elt F) Unit ℕ UU ℕ cfg0 c where
  A w := V₁ m c (Proc.devRef .tc (Pipeline.arrRef spec0 w))
  after w _ := match w with
    | ⟨0, _⟩ => qB m c
    | ⟨1, _⟩ => kB m c
    | ⟨2, _⟩ => vB m c
    | ⟨3, _⟩ => oB m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem share_eq (c : Dev nD) (w : Fin cfg0.W) : (dat m c).share w = fullShare := by unfold Dat.share; split <;> rfl

theorem index_0 : ∀ t : Fin cfg0.N, win0_0.index t = ![0, 0, 0, 0] := (by decide +kernel : ∀ t : Fin grid0.N, win0_0.index t = ![0, 0, 0, 0])
theorem index_1 : ∀ t : Fin cfg0.N, win0_1.index t = ![0, 0, 0, 0] := (by decide +kernel : ∀ t : Fin grid0.N, win0_1.index t = ![0, 0, 0, 0])
theorem index_2 : ∀ t : Fin cfg0.N, win0_2.index t = ![0, 0, 0, 0] := (by decide +kernel : ∀ t : Fin grid0.N, win0_2.index t = ![0, 0, 0, 0])
theorem index_3 : ∀ t : Fin cfg0.N, win0_3.index t = ![0, 0, 0, 0] := (by decide +kernel : ∀ t : Fin grid0.N, win0_3.index t = ![0, 0, 0, 0])

/-! A window's one block is its whole array. -/

theorem before_q (c : Dev nD) (d) : (dat m c).before (0 : Fin 4) t0_0 d = qB m c := by
  unfold Dat.before; rw [if_pos (fetch0_0 t0_0)]; funext j
  show ((cfg0.win 0).blk t0_0).view.read (Elt F) (qB m c) j = _
  blk_simp
  exact congrArg (a₁ := (win0_0.blk t0_0).view.emb j) (a₂ := j) (qB m c) (by blk_ext [index_0])
theorem before_k (c : Dev nD) (d) : (dat m c).before (1 : Fin 4) t0_0 d = kB m c := by
  unfold Dat.before; rw [if_pos (fetch0_1 t0_0)]; funext j
  show ((cfg0.win 1).blk t0_0).view.read (Elt F) (kB m c) j = _
  blk_simp
  exact congrArg (a₁ := (win0_1.blk t0_0).view.emb j) (a₂ := j) (kB m c) (by blk_ext [index_1])
theorem before_v (c : Dev nD) (d) : (dat m c).before (2 : Fin 4) t0_0 d = vB m c := by
  unfold Dat.before; rw [if_pos (fetch0_2 t0_0)]; funext j
  show ((cfg0.win 2).blk t0_0).view.read (Elt F) (vB m c) j = _
  blk_simp
  exact congrArg (a₁ := (win0_2.blk t0_0).view.emb j) (a₂ := j) (vB m c) (by blk_ext [index_2])

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem owed_first (c : Dev nD) : (dat m c).owed t0_0.castSucc = O₀ c := rfl
theorem owed_last (c : Dev nD) : (dat m c).owed t0_0.succ = 0 := rfl

/-- What the body is handed, window by window, and what it hands back. -/
def handed (c : Dev nD) : sProp 𝕄 :=
  iprop(Φ₀ m c ∗ (dat m c).owesAt () t0_0.castSucc
    ∗ (∃ d, ∃ f : Blk F, ⌜f = (dat m c).before (0 : Fin 4) t0_0 d⌝ ∗ (((c : Thread nD τ).loc cc0_stg0_0) ↦{fullShare} f))
    ∗ (∃ d, ∃ f : Blk F, ⌜f = (dat m c).before (1 : Fin 4) t0_0 d⌝ ∗ (((c : Thread nD τ).loc cc0_stg1_0) ↦{fullShare} f))
    ∗ (∃ d, ∃ f : Blk F, ⌜f = (dat m c).before (2 : Fin 4) t0_0 d⌝ ∗ (((c : Thread nD τ).loc cc0_stg2_0) ↦{fullShare} f))
    ∗ (∃ d, ∃ f : Blk F, ⌜f = (dat m c).before (3 : Fin 4) t0_0 d⌝ ∗ (((c : Thread nD τ).loc cc0_stg3_0) ↦{fullShare} f)))
def handedBack (c : Dev nD) : sProp 𝕄 :=
  iprop(Φ₁ c ∗ (dat m c).owesAt () t0_0.succ
    ∗ (∃ f : Blk F, ⌜f = qB m c⌝ ∗ (((c : Thread nD τ).loc cc0_stg0_0) ↦{fullShare} f))
    ∗ (∃ f : Blk F, ⌜f = kB m c⌝ ∗ (((c : Thread nD τ).loc cc0_stg1_0) ↦{fullShare} f))
    ∗ (∃ f : Blk F, ⌜f = vB m c⌝ ∗ (((c : Thread nD τ).loc cc0_stg2_0) ↦{fullShare} f))
    ∗ (∃ f : Blk F, ⌜f = oB m c⌝ ∗ (((c : Thread nD τ).loc cc0_stg3_0) ↦{fullShare} f)))

theorem handed_start (c : Dev nD) : handed m c ⊢ iprop(∃ K, Start (qB m) (kB m) (vB m) K c ∗ ∃ r, prngReg c r) := by
  unfold handed Φ₀ scr Start
  iintro ⟨⟨⟨%K, HK⟩, Hc, Hl, Hs, Hp⟩, HO, ⟨%d0, %f0, %e0, H0⟩, ⟨%d1, %f1, %e1, H1⟩, ⟨%d2, %f2, %e2, H2⟩, ⟨%d3, %f3, -, H3⟩⟩
  rw [before_q] at e0
  rw [before_k] at e1
  rw [before_v] at e2
  subst e0 e1 e2
  iexists K
  isplitr [Hp]
  · isplitl [HK]; · iexact HK
    isplitl [Hc]; · iexact Hc
    isplitl [Hl]; · iexact Hl
    isplitl [Hs]; · iexact Hs
    isplitl [H0]; · iexact H0
    isplitl [H1]; · iexact H1
    isplitl [H2]; · iexact H2
    isplitl [H3]; · iexists f3; iexact H3
    iapply (owesAt_elim m c _ _ (owed_first m c)); iexact HO
  iexact Hp

theorem post_handedBack (c : Dev nD) : iprop(Post (qB m) (kB m) (vB m) c ∗ ∃ r, prngReg c r) ⊢ handedBack m c := by
  unfold handedBack Φ₁ scr Post
  iintro ⟨⟨Hb, Hs0, H0, H1, H2, H3, Hs, ⟨%W, HO⟩⟩, Hp⟩
  isplitl [Hb Hs0 Hs Hp]
  · isplitl [Hb]; · iexact Hb
    isplitl [Hs0]; · iexact Hs0
    isplitl [Hs]; · iexact Hs
    iexact Hp
  isplitl [HO]; · iapply (owesAt_intro m c t0_0.succ 0 (owed_last m c) W); iexact HO
  isplitl [H0]; · iexists (qB m c); isplitr; · ipureintro; rfl
                  iexact H0
  isplitl [H1]; · iexists (kB m c); isplitr; · ipureintro; rfl
                  iexact H1
  isplitl [H2]; · iexists (vB m c); isplitr; · ipureintro; rfl
                  iexact H2
  iexists (oB m c); isplitr; · ipureintro; rfl
  iexact H3

/-- The body run with the generator register beside it. -/
theorem body_framed (K : GSem nD τ sig → ℕ) (c : Dev nD) : iprop(Start (qB m) (kB m) (vB m) K c ∗ ∃ r, prngReg c r)
    ⊢ exec c (cc0_body qM (Memref.isWhole_whole _) kM (Memref.isWhole_whole _) vM (Memref.isWhole_whole _) oM (Memref.isWhole_whole _)
      ckM (Memref.isWhole_whole _) cvM (Memref.isWhole_whole _) cc0_scratch2 cc0_scratch3 cc0_scratch4 cc0_scratch5) (fun _ => handedBack m c) :=
  (sep_mono_left (body_run (qB m) (kB m) (vB m) K c)).trans
    ((wp_frame_r frame (wpE (defs₀ (F := F)) 𝒱₀ (c : Thread nD τ) none) Set.univ).trans
      (wp_mono frame (wpE (defs₀ (F := F)) 𝒱₀ (c : Thread nD τ) none) Set.univ fun _ => post_handedBack m c))

theorem body_handed (c : Dev nD) : handed m c
    ⊢ exec c (cc0_body qM (Memref.isWhole_whole _) kM (Memref.isWhole_whole _) vM (Memref.isWhole_whole _) oM (Memref.isWhole_whole _)
      ckM (Memref.isWhole_whole _) cvM (Memref.isWhole_whole _) cc0_scratch2 cc0_scratch3 cc0_scratch4 cc0_scratch5) (fun _ => handedBack m c) := by
  refine (handed_start m c).trans ?_
  iintro ⟨%K, H⟩
  iapply (body_framed m K c); iexact H

/-- The kernel's body meets the pipeline's obligation. -/
theorem body_obligation (c : Dev nD) : BodyObligation (dat m c) (defs₀ (F := F)) 𝒱₀ () Set.univ := fun t => by
  rw [fin_N0 t]
  rw [bigSep_W, bigSep_W]
  simp only [owns_whole_eq]
  show handed m c ⊢ exec c (cc0_body qM (Memref.isWhole_whole _) kM (Memref.isWhole_whole _) vM (Memref.isWhole_whole _) oM (Memref.isWhole_whole _)
      ckM (Memref.isWhole_whole _) cvM (Memref.isWhole_whole _) cc0_scratch2 cc0_scratch3 cc0_scratch4 cc0_scratch5) (fun _ => handedBack m c)
  exact body_handed m c

/-! ## The kernel's own semaphores -/

/-- The sixteen semaphores of the copies: copy j's sending end, copy j's receiving end. -/
abbrev osem : Fin 8 × Fin 2 → SemLoc sig := fun jb => match jb.2 with
  | 0 => .dma (sendS jb.1)
  | 1 => .dma (recvS jb.1)

theorem ownSems_eq (c : Dev nD) : (Pipeline.ownSems0 osem c : sProp 𝕄) = sems0 c := by
  unfold Pipeline.ownSems0 sems0
  rw [bigSep_univ_prod, ← bigSep_sep']
  exact bigSep_congr fun j _ => BI.bigSep_fin_two (fun k : Fin 2 => (semVal ((c : Thread nD τ), osem (j, k)) 0 : sProp 𝕄))

/-! ## The region -/

/-- What the launch keeps for the kernel, and that with the copies' semaphores opened. -/
def Tk (c : Dev nD) : sProp 𝕄 := iprop((∃ K, ghost (kB m) (vB m) K c) ∗ creds c)
def Xk (c : Dev nD) : sProp 𝕄 := iprop((∃ K, opened (kB m) (vB m) K c) ∗ creds c ∗ levAts L lv)
/-- What the kernel leaves: the barrier's counter at zero. -/
def Yk (c : Dev nD) : sProp 𝕄 := semVal (barCell c) 0

/-- Copy j's two semaphores opened. -/
theorem open_copy (K : GSem nD τ sig → ℕ) (c : Dev nD) (j : Fin 8) :
    iprop((cellInv ER (rd (kB m) (vB m)) (K (sendCell c j)) (sendCell c j)
        ∗ cellInv ER (rd (kB m) (vB m)) (K (recvCell c j)) (recvCell c j)
        ∗ cellInv ER (rd (kB m) (vB m)) (K (recvCell (pt c) j)) (recvCell (pt c) j))
      ∗ (openTok ER (sendCell c j) ∗ openTok ER (recvCell c j) ∗ dutyTok ER (sendCell c j) 0 () ∗ dutyTok ER (recvCell (pt c) j) 0 ())
      ∗ semVal (sendCell c j) 0 ∗ semVal (recvCell c j) 0)
    ⊢ (|={Set.univ}=> iprop((atPos ER (sendCell c j) 0 ∅ 0 ∗ reached ER (sendCell c j) 0)
        ∗ (atPos ER (recvCell c j) 0 ∅ 0 ∗ reached ER (recvCell c j) 0)
        ∗ dutyTok ER (sendCell c j) 0 () ∗ dutyTok ER (recvCell (pt c) j) 0 ()) : sProp 𝕄) := by
  iintro ⟨⟨#HIs, #HIr, -⟩, ⟨Hos, Hor, Hts, Htr⟩, Hs0, Hr0⟩
  imod (Rounds.cell_open ER (rd (kB m) (vB m)) (g := sendCell c j) (Set.mem_univ (K (sendCell c j)))) $$ [Hos Hs0] with ⟨HatS, #HrS⟩
  · isplitr; · iexact HIs
    isplitl [Hos] <;> iassumption
  imod (Rounds.cell_open ER (rd (kB m) (vB m)) (g := recvCell c j) (Set.mem_univ (K (recvCell c j)))) $$ [Hor Hr0] with ⟨HatR, #HrR⟩
  · isplitr; · iexact HIr
    isplitl [Hor] <;> iassumption
  imodintro
  isplitl [HatS]
  · isplitl [HatS]; · iexact HatS
    iexact HrS
  isplitl [HatR]
  · isplitl [HatR]; · iexact HatR
    iexact HrR
  isplitl [Hts] <;> iassumption

/-- All copies' semaphores opened. -/
theorem open_copies (K : GSem nD τ sig → ℕ) (c : Dev nD) :
    iprop((bigSep Finset.univ fun j : Fin 8 => iprop(cellInv ER (rd (kB m) (vB m)) (K (sendCell c j)) (sendCell c j)
        ∗ cellInv ER (rd (kB m) (vB m)) (K (recvCell c j)) (recvCell c j)
        ∗ cellInv ER (rd (kB m) (vB m)) (K (recvCell (pt c) j)) (recvCell (pt c) j)))
      ∗ (bigSep Finset.univ fun j : Fin 8 => iprop(openTok ER (sendCell c j) ∗ openTok ER (recvCell c j)
        ∗ dutyTok ER (sendCell c j) 0 () ∗ dutyTok ER (recvCell (pt c) j) 0 ()))
      ∗ (bigSep Finset.univ fun j : Fin 8 => semVal (sendCell c j) 0) ∗ (bigSep Finset.univ fun j : Fin 8 => semVal (recvCell c j) 0))
    ⊢ (|={Set.univ}=> bigSep Finset.univ fun j : Fin 8 => iprop((atPos ER (sendCell c j) 0 ∅ 0 ∗ reached ER (sendCell c j) 0)
        ∗ (atPos ER (recvCell c j) 0 ∅ 0 ∗ reached ER (recvCell c j) 0)
        ∗ dutyTok ER (sendCell c j) 0 () ∗ dutyTok ER (recvCell (pt c) j) 0 ()) : sProp 𝕄) := by
  simp only [← bigSep_sep']
  refine BI.Entails.trans (bigSep_mono fun j _ => ?_) (bigSep_fupd _ _)
  exact open_copy m K c j

theorem hopen (c : Dev nD) : iprop(Tk m c ∗ Pipeline.ownSems0 osem c ∗ levAts L lv) ⊢ (|={Set.univ}=> Xk m c : sProp 𝕄) := by
  rw [ownSems_eq]
  unfold Tk Xk sems0 ghost
  iintro ⟨⟨⟨%K, #HI, HaB, HrB, HtB, Hj⟩, Hc⟩, ⟨Hs0, Hr0⟩, Hl⟩
  ihave HI2 := (show (invs (kB m) (vB m) K c : sProp 𝕄) ⊢ _ from Entails.of_eq (by unfold invs; rfl)) $$ HI
  icases HI2 with ⟨-, -, HIj⟩
  imod (open_copies m K c) $$ [HIj Hj Hs0 Hr0] with Hj
  · isplitl [HIj]; · iexact HIj
    isplitl [Hj]; · iexact Hj
    isplitl [Hs0] <;> iassumption
  imodintro
  isplitr [Hc Hl]
  · iexists K; unfold opened
    isplitr; · iexact HI
    isplitl [HaB]; · iexact HaB
    isplitl [HrB]; · iexact HrB
    isplitl [HtB] <;> iassumption
  isplitl [Hc] <;> iassumption

theorem held_none (c : Dev nD) (W : Valuation τ sig (Elt F)) : (StableHlo.held (c.tc : Thread nD τ) ∅ W : sProp 𝕄) = BI.emp := by
  unfold StableHlo.held
  exact BI.bigSep_empty

theorem scr_eq (c : Dev nD) : (Pipeline.scopedRest (Ix := Unit) (Name := ℕ) (U := UU) (Lvl := ℕ) (Val := Elt F) (Pipeline.pin (pcfgs (F := F)) adm 0).spec c : sProp 𝕄) = scr c :=
  scopedRest0_eq c

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = Φ₀ m c from rfl, scr_eq]
  unfold Φ₀ Xk
  iintro ⟨Hs, Hp, -, HK, Hc, Hl⟩
  isplitl [HK]; · iexact HK
  isplitl [Hc]; · iexact Hc
  isplitl [Hl]; · iexact Hl
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = Φ₁ c from rfl, scr_eq, ownSems_eq, held_none]
  unfold Φ₁ Yk
  iintro ⟨Hb, Hs0, Hs, Hp⟩
  isplitl [Hs]; · iexact Hs
  isplitl [Hp]; · iexact Hp
  isplitr; · iempintro
  isplitl [Hs0] <;> iassumption

theorem O₀_pos {c : Dev nD} {g : GSem nD τ sig} {u : Unit} (h : 0 < O₀ c g u) : (∃ j, g = recvCell (pt c) j) ∨ g = barCell (pt c) := by
  unfold O₀ at h
  rw [Pi.add_apply, Finsupp.add_apply] at h
  rcases Nat.add_pos_iff_pos_or_pos.mp h with h | h
  · exact .inl (owed_pos h)
  · rw [tallyAt_apply] at h
    split at h
    · next hg => exact .inr hg.1
    · exact absurd h (Nat.lt_irrefl 0)

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  obtain ⟨t, ht⟩ := t
  rcases t with _ | t
  · have h : 0 < O₀ c g i := h
    rcases O₀_pos h with ⟨j, rfl⟩ | rfl
    · exact ⟨by rw [L_tc]; exact Finset.mem_singleton_self _, by rw [lv_recv]; decide⟩
    · exact ⟨by rw [L_tc]; exact Finset.mem_singleton_self _, Nat.one_pos⟩
  · exact absurd h (Nat.lt_irrefl 0)

theorem stg_kind : ∀ (w : Fin 4) (s : Fin (spec0 w).nbuf), semKind ((spec0 w).sem s) = none := by decide

/-- The unscoped buffers that are no window's array. -/
abbrev others : Finset (DevRef τ sig) := Pipeline.ucRefs τ sig \ Pipeline.arrRefs (τ := τ) spec0

theorem arrRefs_sub : Pipeline.arrRefs (τ := τ) spec0 ⊆ Pipeline.ucRefs τ sig :=
  Pipeline.arrRefs_sub_ucRefs spec0 launch0.win.arr_unscoped

theorem out_mem : (Proc.devRef .tc main_v9 : DevRef τ sig) ∈ Pipeline.arrRefs (τ := τ) spec0 :=
  Finset.mem_map.mpr ⟨main_v9, Finset.mem_image.mpr ⟨3, Finset.mem_univ _, rfl⟩, rfl⟩

theorem others_same (c : Dev nD) : ∀ b ∈ others \ (∅ : Finset (DevRef τ sig)), V₂ m c b = V₁ m c b := fun b hb =>
  V₂_ne m c b (fun e => (Finset.mem_sdiff.mp (Finset.mem_sdiff.mp hb).1).2 (e ▸ out_mem))

theorem arr_in (c : Dev nD) (w : Fin cfg0.W) : (dat m c).arrAt w 0 = V₁ m c (Proc.devRef .tc (Pipeline.arrRef spec0 w)) := by
  unfold Dat.arrAt; rfl

theorem arr_out (c : Dev nD) : ∀ w : Fin cfg0.W, (dat m c).arrAt w cfg0.N = V₂ m c (Proc.devRef .tc (Pipeline.arrRef spec0 w))
  | ⟨0, _⟩ => ((dat m c).arrAt_in (0 : Fin 4) rfl _).trans (V₂_ne m c (Proc.devRef .tc main_v4) (StableHlo.devRef_ne_of_ne (by decide))).symm
  | ⟨1, _⟩ => ((dat m c).arrAt_in (1 : Fin 4) rfl _).trans (V₂_ne m c (Proc.devRef .tc main_v6) (StableHlo.devRef_ne_of_ne (by decide))).symm
  | ⟨2, _⟩ => ((dat m c).arrAt_in (2 : Fin 4) rfl _).trans (V₂_ne m c (Proc.devRef .tc main_v8) (StableHlo.devRef_ne_of_ne (by decide))).symm
  | ⟨3, _⟩ => by
    refine Eq.trans ?_ (V₂_out m c).symm
    refine (dat m c).arrAt_eq_of_after_last (3 : Fin 4) t0_0 (by decide +kernel) _ fun j => ?_
    blk_simp
    rfl

/-- The kernel as a region of the program. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (body_obligation m c).loose)
    (fun _ => 0) O₀ (fun c => (zero_add _).symm) (fun c => rfl) (fun _ => rfl) (fun c w => share_eq m c w)
    (V₁ m) (V₂ m) (others_same m)
    (Tk m) Yk (Xk m) Yk (hopen m) (hin m) (hout m)
    (fun c => by iintro H; imodintro; iexact H)
    (fun _ => 0)
    ⟨fun c w s => by rw [L_tc]; exact Finset.mem_singleton_self _,
      fun c w s => by
        show (match semKind ((spec0 w).sem s) with | some (true, _) => 2 | _ => 0) ≤ 0
        rw [stg_kind],
      fun c t g i h => cut m c t g i h⟩
    (fun _ => iprop(emp))
    (arr_in m) (arr_out m)

/-! ## The operations around it, and the program as its segments -/

/-- What rides beside the buffers up to the kernel. -/
def R₀ (c : Dev nD) : sProp 𝕄 := iprop(start (kB m) (vB m) c ∗ ∃ W, owes (c : Thread nD τ) (O₀ c) W)
/-- And behind it. -/
def R₁ (c : Dev nD) : sProp 𝕄 := iprop(semVal (barCell c) 0 ∗ ∃ W, owes (c : Thread nD τ) (0 : CellTallies nD τ sig Unit) W)

theorem ops0_sub : ∀ op ∈ (hostOps0 : List (HloOp τ sig (Elt F))), op.bufs ⊆ Pipeline.ucRefs τ sig := fun op h =>
  Pipeline.sub_ucRefs op ((List.forall_iff_forall_mem.mp hostOps0_sub) op h)
theorem ops1_sub : ∀ op ∈ (hostOps1 : List (HloOp τ sig (Elt F))), op.bufs ⊆ Pipeline.ucRefs τ sig := fun op h =>
  Pipeline.sub_ucRefs op ((List.forall_iff_forall_mem.mp hostOps1_sub) op h)

def before : Pipeline.HostSeg (Name := ℕ) (U := UU) (pcfgs (F := F)) defs₀ 𝒱₀ L lv :=
  Pipeline.HostSeg.ofOps _ _ _ _ _ (Pipeline.ucRefs τ sig) hostOps0 ops0_sub
    (fun op h => (List.forall_iff_forall_mem.mp hostOps0_fresh) op h) (V₀ m) (R₀ m)
def behind : Pipeline.HostSeg (Name := ℕ) (U := UU) (pcfgs (F := F)) defs₀ 𝒱₀ L lv :=
  Pipeline.HostSeg.ofOps _ _ _ _ _ (Pipeline.ucRefs τ sig) hostOps1 ops1_sub
    (fun op h => (List.forall_iff_forall_mem.mp hostOps1_fresh) op h) (V₂ m) R₁

def segs : List (Pipeline.Seg (pcfgs (F := F)) adm (pdats m) () defs₀ 𝒱₀ L lv) :=
  [.host (before m), .region (region m), .host (behind m)]

theorem main_eq (c : Dev nD) : main (F := F) c = Pipeline.Seg.run (segs m) :=
  main_segs adm (pdats m) () 𝒱₀ L lv (before m) (behind m) (region m) rfl rfl c

theorem region_pre (c : Dev nD) : iprop(StableHlo.held (c : Thread nD τ) (Pipeline.ucRefs τ sig) (V₁ m c) ∗ R₀ m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk m c ∗ ∃ Wd, owes (c : Thread nD τ) (0 + O₀ c) Wd)
  rw [zero_add, StableHlo.held_sub_split (c.tc : Thread nD τ) arrRefs_sub]
  unfold R₀ start Tk
  iintro ⟨⟨Ha, Ho⟩, ⟨HK, Hc, Hp⟩, HO⟩
  isplitl [Ha]; · iexact Ha
  isplitl [Hp]; · iexact Hp
  isplitl [Ho]
  · isplitl [Ho]; · iexact Ho
    iempintro
  isplitl [HK Hc]
  · isplitl [HK] <;> iassumption
  iexact HO

theorem region_post (c : Dev nD) : (region m).post c ⊢ iprop(StableHlo.held (c : Thread nD τ) (Pipeline.ucRefs τ sig) (V₂ m c) ∗ R₁ c) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [StableHlo.held_sub_split (c.tc : Thread nD τ) arrRefs_sub]
  unfold R₁ Yk
  iintro ⟨Ha, -, ⟨Ho, -⟩, Hb, HO⟩
  isplitl [Ha Ho]
  · isplitl [Ha] <;> iassumption
  isplitl [Hb] <;> iassumption

end Cert.Exchange
end
-- ==== Proof.Run.lean ====
/-
  The launch: every semaphore's invariant allocated at once, tokens and credits dealt to the devices, and the run of the whole
  program on the sixteen devices.
-/
module

public import proofs.«01_k».proof.Proof.Region
public import Idealize.ShloMosaic.Lib.Quiescent
public import Idealize.ShloMosaic.Harness.Basic

@[expose] public section

set_option maxRecDepth 8192

noncomputable section

namespace Cert.Exchange

open Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem osem_inj : Function.Injective osem := by decide
theorem osem_ne_bar : ∀ k, osem k ≠ .reg barS := by decide
theorem recvS_inj : Function.Injective recvS := by decide

def barEmb : Dev nD ↪ GSem nD τ sig := ⟨fun c => barCell c, fun _ _ h => congrArg (fun g : GSem nD τ sig => g.1.1) h⟩
def copyEmb : Dev nD × (Fin 8 × Fin 2) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the cells of the copies. -/
abbrev barCells : Finset (GSem nD τ sig) := Finset.univ.map barEmb
abbrev copyCells : Finset (GSem nD τ sig) := Finset.univ.map copyEmb

/-- One token for the single duty of a cell. -/
def tokEmb : GSem nD τ sig ↪ GSem nD τ sig × ℕ × Unit := ⟨fun g => (g, 0, ()), fun _ _ h => congrArg Prod.fst h⟩
abbrev allToks : Finset (GSem nD τ sig × ℕ × Unit) := (barCells ∪ copyCells).map tokEmb

theorem disjoint_cells : Disjoint (barCells : Finset (GSem nD τ sig)) copyCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ copyCells : Finset (GSem nD τ sig)) :=
  Finset.mem_union_left _ (Finset.mem_map_of_mem barEmb (Finset.mem_univ c))
theorem send_mem (c : Dev nD) (j : Fin 8) : sendCell c j ∈ (barCells ∪ copyCells : Finset (GSem nD τ sig)) :=
  Finset.mem_union_right _ (Finset.mem_map_of_mem copyEmb (Finset.mem_univ (c, (j, (0 : Fin 2)))))
theorem recv_mem (c : Dev nD) (j : Fin 8) : recvCell c j ∈ (barCells ∪ copyCells : Finset (GSem nD τ sig)) :=
  Finset.mem_union_right _ (Finset.mem_map_of_mem copyEmb (Finset.mem_univ (c, (j, (1 : Fin 2)))))

/-- A family over the barrier cells, by device. -/
theorem over_bar (Φ : GSem nD τ sig → sProp 𝕄) : bigSep barCells Φ = bigSep Finset.univ fun c : Dev nD => Φ (barCell c) :=
  bigSep_map (s := Finset.univ) barEmb (Φ := Φ)
/-- A family over the cells of the copies, by device and copy. -/
theorem over_copies (Φ : GSem nD τ sig → sProp 𝕄) : bigSep copyCells Φ
    = bigSep Finset.univ fun c : Dev nD => bigSep Finset.univ fun j : Fin 8 => iprop(Φ (sendCell c j) ∗ Φ (recvCell c j)) := by
  rw [bigSep_map, bigSep_univ_prod]
  refine bigSep_congr fun c _ => ?_
  rw [bigSep_univ_prod]
  exact bigSep_congr fun j _ => BI.bigSep_fin_two (fun k : Fin 2 => Φ ((c : Thread nD τ), osem (j, k)))

/-- A family over all the cells. -/
theorem over_both (Φ : GSem nD τ sig → sProp 𝕄) : bigSep (barCells ∪ copyCells) Φ = iprop(bigSep barCells Φ ∗ bigSep copyCells Φ) :=
  bigSep_union disjoint_cells

/-- The resource at the launch: the pipeline library's part, and the exchange's. -/
def u₀ : UU :=
  (initOf (Pipeline.cells (Pipeline.pin (pcfgs (F := F)) adm) cellOf_inj) (Pipeline.launchToks (Pipeline.pin (pcfgs (F := F)) adm) cellOf_inj),
    launchOf barCells copyCells allToks)

/-- The exchange's part waits on device 0 until every device's cells are funded together. -/
def G (c : Dev nD) : sProp 𝕄 := if c = 0 then BI.own (ER (launchOf barCells copyCells allToks)) else iprop(emp)

theorem bigSep_G : bigSep Finset.univ (G (F := F)) = BI.own (ER (launchOf barCells copyCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What each device is dealt -/

/-- What every device may consult: all invariants under one map of names, and that every barrier cell has reached round 0. -/
def records (κ : GSem nD τ sig → ℕ) : sProp 𝕄 :=
  iprop((bigSep (barCells ∪ copyCells) fun g => cellInv ER (rd (kB m) (vB m)) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ copyCells : Finset (GSem nD τ sig))) :
    (bigSep (barCells ∪ copyCells) fun g => (cellInv ER (rd (kB m) (vB m)) (κ g) g : sProp 𝕄)) ⊢ cellInv ER (rd (kB m) (vB m)) (κ g) g :=
  bigSep_elim hg

theorem reached_at (c : Dev nD) : (bigSep barCells fun g => (reached ER g 0 : sProp 𝕄)) ⊢ reached ER (barCell c) 0 :=
  bigSep_elim (Finset.mem_map_of_mem barEmb (Finset.mem_univ c))

theorem spread {ι : Type} [DecidableEq ι] (S : Finset ι) (P : sProp 𝕄) [BI.Persistent P] {Φ Ψ : ι → sProp 𝕄} (h : ∀ i ∈ S, iprop(P ∗ Φ i) ⊢ Ψ i) :
    iprop(P ∗ bigSep S Φ) ⊢ bigSep S Ψ :=
  (sep_mono_left (BI.bigSep_of_persistent S P)).trans (by rw [← bigSep_sep']; exact bigSep_mono h)

theorem everywhere {ι : Type} [DecidableEq ι] (S : Finset ι) (P : sProp 𝕄) [BI.Persistent P] {Ψ : ι → sProp 𝕄} (h : ∀ i ∈ S, P ⊢ Ψ i) :
    P ⊢ bigSep S Ψ :=
  (BI.bigSep_of_persistent S P).trans (bigSep_mono h)

/-- What stays with device c: its place on its barrier, its rights to open, the tokens of the duties it pays. -/
def linear (c : Dev nD) : sProp 𝕄 :=
  iprop(atPos ER (barCell c) 0 ∅ 0 ∗ dutyTok ER (barCell (pt c)) 0 ()
    ∗ bigSep Finset.univ fun j : Fin 8 => iprop(openTok ER (sendCell c j) ∗ openTok ER (recvCell c j)
        ∗ dutyTok ER (sendCell c j) 0 () ∗ dutyTok ER (recvCell (pt c) j) 0 ()))

theorem invs_intro (κ : GSem nD τ sig → ℕ) (c : Dev nD) : records m κ ⊢ invs (kB m) (vB m) κ c := by
  unfold records invs
  iintro ⟨#HI, -⟩
  isplitr; · iapply (inv_at m κ (bar_mem c)); iexact HI
  isplitr; · iapply (inv_at m κ (bar_mem (pt c))); iexact HI
  iapply (everywhere Finset.univ (bigSep (barCells ∪ copyCells) fun g => (cellInv ER (rd (kB m) (vB m)) (κ g) g : sProp 𝕄)) fun j _ => show _ ⊢ _ from by
    iintro #HI
    isplitr; · iapply (inv_at m κ (send_mem c j)); iexact HI
    isplitr; · iapply (inv_at m κ (recv_mem c j)); iexact HI
    iapply (inv_at m κ (recv_mem (pt c) j)); iexact HI)
  iexact HI

theorem ghost_intro (κ : GSem nD τ sig → ℕ) (c : Dev nD) : iprop(records m κ ∗ linear c) ⊢ iprop(∃ K, ghost (kB m) (vB m) K c) := by
  unfold linear ghost
  iintro ⟨#HR, HaB, HtB, Hj⟩
  iexists κ
  isplitr; · iapply (invs_intro m κ c); iexact HR
  isplitl [HaB]; · iexact HaB
  isplitr
  · unfold records
    icases HR with ⟨-, HR2⟩
    iapply (reached_at (F := F) (pt c)); iexact HR2
  isplitl [HtB] <;> iassumption

/-- The tokens and the rights to open, dealt: a device gets its partner's barrier and receive tokens. -/
theorem deal :
    iprop((bigSep barCells fun g => (atPos ER g 0 ∅ 0 : sProp 𝕄)) ∗ (bigSep copyCells fun g => openTok ER g)
        ∗ bigSep allToks fun x => dutyTok ER x.1 x.2.1 x.2.2)
      ⊢ bigSep Finset.univ fun c : Dev nD => (linear c : sProp 𝕄) := by
  unfold linear allToks
  rw [bigSep_map (s := barCells ∪ copyCells) tokEmb, over_both]
  simp only [over_bar, over_copies, bigSep_sep']
  rw [bigSep_univ_equiv swap (fun c : Dev nD => (dutyTok ER (tokEmb (barCell c)).1 (tokEmb (barCell c)).2.1 (tokEmb (barCell c)).2.2 : sProp 𝕄)),
    bigSep_univ_equiv swap (fun c : Dev nD => bigSep Finset.univ fun j : Fin 8 =>
      (dutyTok ER (tokEmb (recvCell c j)).1 (tokEmb (recvCell c j)).2.1 (tokEmb (recvCell c j)).2.2 : sProp 𝕄))]
  iintro ⟨Ha, ⟨Hos, Hor⟩, HtB, HtS, HtR⟩
  isplitl [Ha]; · iexact Ha
  isplitl [HtB]; · iexact HtB
  isplitl [Hos]; · iexact Hos
  isplitl [Hor]; · iexact Hor
  isplitl [HtS]; · iexact HtS
  iexact HtR

/-! ## The credits at the launch -/

theorem dev_of_bar {c d : Dev nD} (h : barCell c = barCell d) : c = d := congrArg (fun g : GSem nD τ sig => g.1.1) h
theorem of_recv {c d : Dev nD} {i j : Fin 8} (h : recvCell c i = recvCell d j) : c = d ∧ i = j :=
  ⟨congrArg (fun g : GSem nD τ sig => g.1.1) h, recvS_inj (SemLoc.dma.inj (congrArg Prod.snd h))⟩

theorem due_bar (d c : Dev nD) : O₀ d (barCell c) () = if d = pt c then 1 else 0 := by
  have h0 : owed d 0 (barCell c) () = 0 := by
    by_contra h
    obtain ⟨j, e⟩ := owed_pos (Nat.pos_of_ne_zero h)
    exact absurd (congrArg Prod.snd e) (by intro h; cases h)
  unfold O₀
  rw [Pi.add_apply, Finsupp.add_apply, h0, tallyAt_apply, Nat.zero_add]
  by_cases h : d = pt c
  · subst h; rw [pt_pt, if_pos ⟨rfl, rfl⟩, if_pos rfl]
  · rw [if_neg (fun h1 => h (by rw [← pt_pt d, dev_of_bar h1.1])), if_neg h]

theorem due_recv (d c : Dev nD) (j : Fin 8) : O₀ d (recvCell c j) () = if d = pt c then N else 0 := by
  unfold O₀ owed
  rw [Pi.add_apply, Finsupp.add_apply, tallyAt_apply, if_neg (fun h => absurd (congrArg Prod.snd h.1) (by intro h; cases h)), Nat.add_zero,
    Finset.sum_apply, Finsupp.finset_sum_apply, Finset.sum_eq_single j]
  · rw [tallyAt_apply]
    by_cases h : d = pt c
    · subst h; rw [pt_pt, if_pos ⟨rfl, rfl⟩, if_pos rfl]
    · rw [if_neg (fun h1 => h (by rw [← pt_pt d, (of_recv h1.1).1])), if_neg h]
  · intro i _ hi
    rw [tallyAt_apply, if_neg (fun h => hi (of_recv h.1).2.symm)]
  · intro h; exact absurd (by rw [Finset.mem_filter]; exact ⟨Finset.mem_univ _, Nat.zero_le _⟩) h

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => due_bar d c, Finset.sum_ite_eq' Finset.univ (pt c) fun _ => 1,
    if_pos (Finset.mem_univ _)]

theorem launch_recv (c : Dev nD) (j : Fin 8) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => due_recv d c j, Finset.sum_ite_eq' Finset.univ (pt c) fun _ => N,
    if_pos (Finset.mem_univ _)]

def recvEmb : Fin 8 ↪ SemLoc sig := ⟨fun j => .dma (recvS j), fun _ _ h => recvS_inj (SemLoc.dma.inj h)⟩

theorem creds_intro (c : Dev nD) : (Pipeline.launchCred O₀ c : sProp 𝕄) ⊢ creds c := by
  unfold Pipeline.launchCred creds
  rw [bigSep_univ_at _ (SemLoc.reg barS), launch_bar]
  refine sep_mono_right ?_
  have hs : (Finset.univ.map recvEmb : Finset (SemLoc sig)) ⊆ Finset.univ.erase (SemLoc.reg barS) := fun s hs => by
    obtain ⟨j, -, rfl⟩ := Finset.mem_map.mp hs
    exact Finset.mem_erase.mpr ⟨fun h => by revert h; revert j; decide, Finset.mem_univ _⟩
  refine (BI.bigSep_subset hs).trans ?_
  rw [bigSep_map]
  exact Entails.of_eq (bigSep_congr fun j _ => by rw [← launch_recv c j]; rfl)

/-! ## The launch -/

/-- Device c's state when the program starts, and when it ends. -/
abbrev T₀ (c : Dev nD) : sProp 𝕄 := iprop(StableHlo.held (c : Thread nD τ) (Pipeline.ucRefs τ sig) (V₀ m c) ∗ R₀ m c)
abbrev Tₙ (c : Dev nD) : sProp 𝕄 := iprop(StableHlo.held (c : Thread nD τ) (Pipeline.ucRefs τ sig) (V₃ m c) ∗ semVal (barCell c) 0)

/-- What of a device's holdings at the launch is not ghost state. -/
def bundle (c : Dev nD) : sProp 𝕄 :=
  iprop(StableHlo.held (c : Thread nD τ) (Pipeline.ucRefs τ sig) (V₀ m c) ∗ creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R₀ start
  iintro ⟨#HR, Hl, Hh, Hc, HO, Hp⟩
  isplitl [Hh]; · iexact Hh
  isplitr [HO]
  · isplitl [Hl]
    · iapply (ghost_intro m κ c)
      isplitr; · iexact HR
      iexact Hl
    isplitl [Hc] <;> iassumption
  · iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem launch_core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V₀ m c)
      from Pipeline.unscopedBufs_held c (V₀ m c), unscopedSems0_eq]
  unfold bundle
  iintro ⟨Hh, Hus, HO, Hcr, Hp, HG⟩
  isplitl [Hh HO Hcr Hp]
  · isplitl [Hh]; · iexact Hh
    isplitl [Hcr]; · iapply (creds_intro (F := F) c); iexact Hcr
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => bundle m c) ∗ (bigSep Finset.univ fun c : Dev nD => semVal (barCell c) 0) ∗ bigSep Finset.univ (G (F := F))) : sProp 𝕄)
      from (bigSep_mono fun c _ => launch_core m ρ c).trans (by simp only [bigSep_sep']; exact BI.Entails.refl _)) $$ H
  icases H' with ⟨HB, Hv, HG⟩
  ihave Hu := (Entails.of_eq (bigSep_G (F := F))) $$ HG
  ihave Hv := (Entails.of_eq (over_bar (F := F) (fun g => semVal g 0)).symm) $$ Hv
  imod (Rounds.fund_launch ER (rd (kB m) (vB m)) disjoint_cells (fun g _ h => h) allToks) $$ [Hv Hu] with ⟨%κ, -, #Hinv, #Hr, Hat, Hopen, Htok⟩
  · isplitl [Hv] <;> iassumption
  imodintro
  iapply (spread Finset.univ (records m κ) (Φ := fun c => iprop(linear c ∗ bundle m c)) fun c _ => T₀_intro m κ c)
  isplitr
  · unfold records
    isplitr; · iexact Hinv
    iexact Hr
  iapply (Entails.of_eq (bigSep_sep' Finset.univ (fun c : Dev nD => linear c) (fun c : Dev nD => bundle m c)).symm)
  isplitr [HB]
  · iapply (deal (F := F))
    isplitl [Hat]; · iexact Hat
    isplitl [Hopen]; · iexact Hopen
    iexact Htok
  · iexact HB

/-! ## The end of the run -/

theorem keep0 (c : Dev nD) : V₃ m c (Proc.devRef .tc main_arg0) = m ((c : Thread nD τ).loc main_arg0) := by
  unfold V₃
  rw [StableHlo.after_of_forall_not_mem (b := Proc.devRef .tc main_arg0) _ _ (List.forall_iff_forall_mem.mp (by
      simp only [hostOps1, List.Forall, StableHlo.unary_writes, Finset.mem_singleton]
      repeat' apply And.intro
      all_goals exact StableHlo.devRef_ne_of_ne (by decide))), V₂_ne m c _ (StableHlo.devRef_ne_of_ne (by decide))]
  exact V_main_arg0 m c
theorem keep1 (c : Dev nD) : V₃ m c (Proc.devRef .tc main_arg1) = m ((c : Thread nD τ).loc main_arg1) := by
  unfold V₃
  rw [StableHlo.after_of_forall_not_mem (b := Proc.devRef .tc main_arg1) _ _ (List.forall_iff_forall_mem.mp (by
      simp only [hostOps1, List.Forall, StableHlo.unary_writes, Finset.mem_singleton]
      repeat' apply And.intro
      all_goals exact StableHlo.devRef_ne_of_ne (by decide))), V₂_ne m c _ (StableHlo.devRef_ne_of_ne (by decide))]
  exact V_main_arg1 m c
theorem keep2 (c : Dev nD) : V₃ m c (Proc.devRef .tc main_arg2) = m ((c : Thread nD τ).loc main_arg2) := by
  unfold V₃
  rw [StableHlo.after_of_forall_not_mem (b := Proc.devRef .tc main_arg2) _ _ (List.forall_iff_forall_mem.mp (by
      simp only [hostOps1, List.Forall, StableHlo.unary_writes, Finset.mem_singleton]
      repeat' apply And.intro
      all_goals exact StableHlo.devRef_ne_of_ne (by decide))), V₂_ne m c _ (StableHlo.devRef_ne_of_ne (by decide))]
  exact V_main_arg2 m c

/-- The arguments and the result. -/
abbrev shown : Finset (DevRef τ sig) :=
  {Proc.devRef .tc main_arg0, Proc.devRef .tc main_arg1, Proc.devRef .tc main_arg2, Proc.devRef .tc main_v11}
theorem shown_sub : shown ⊆ Pipeline.ucRefs τ sig := by decide
theorem shown_eq (c : Dev nD) (W : Valuation τ sig (Elt F)) : (StableHlo.held (c : Thread nD τ) shown W : sProp 𝕄)
    = iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_arg2) ↦{fullShare} W (Proc.devRef .tc main_arg2))
      ∗ (((c : Thread nD τ).loc main_v11) ↦{fullShare} W (Proc.devRef .tc main_v11))) := by
  unfold StableHlo.held
  rw [bigSep_insert (by decide), bigSep_insert (by decide), bigSep_insert (by decide), bigSep_singleton]
  rfl

theorem unscoped_bar : ∀ sm : SemLoc sig, sm.isScoped .tc = false → sm = .reg barS := by decide

set_option backward.isDefEq.respectTransparency.types false in
/-- From any memory with zero counters every fair execution on the sixteen devices terminates; at the end the arguments are as
    they were, the result is what the chain of stages leaves there, and every counter is zero. -/
theorem run_main : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v11) = V₃ m c (Proc.devRef .tc main_v11)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      rw [bigSep_G]
      iintro Hu
      ihave H := (ownU_pair _ _) $$ Hu
      icases H with ⟨HP, HX⟩
      imodintro
      isplitl [HP] <;> iassumption)
    (T₀ := T₀ m) (Tₙ := Tₙ m)
    (hch := by
      refine ⟨fun c => .rfl, fun c => region_pre m c, fun c => region_post m c, fun c => ?_⟩
      show iprop(StableHlo.held (c : Thread nD τ) (Pipeline.ucRefs τ sig) (V₃ m c) ∗ R₁ c)
        ⊢ iprop(Tₙ m c ∗ ∃ W, owes (c : Thread nD τ) (0 : CellTallies nD τ sig Unit) W)
      unfold R₁
      iintro ⟨Hh, Hb0, HO⟩
      isplitr [HO]
      · isplitl [Hh] <;> iassumption
      · iexact HO)
    (hinit := init m ρ)
    (QY := fun c s => (s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)
        ∧ s.mem ((c : Thread nD τ).loc main_v11) = V₃ m c (Proc.devRef .tc main_v11))
      ∧ s.sem (barCell c) = 0)
    (hfin := fun c s' => by
      dsimp only [Tₙ]; rw [StableHlo.held_sub_split (c.tc : Thread nD τ) shown_sub, shown_eq]
      iintro ⟨⟨⟨⟨H0, H1, H2, H3⟩, -⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        exact ⟨h0.trans (keep0 m c), h1.trans (keep1 m c), h2.trans (keep2 m c), h3⟩,
      sem_eq_zero hs fun c sm hsm => by
        obtain rfl := unscoped_bar sm hsm
        exact (h c).2⟩)

end Cert.Exchange
end
-- ==== Proof.Frames.lean ====
/-
  The frame claims: each program runs, leaves its arguments as they were and its counters at zero.
-/
module

public import proofs.«01_k».proof.Proof.Run
public import proofs.«01_k».proof.Defs
public import proofs.«01_k».proof.Proof.Gen.Kernel
public import proofs.«01_k».proof.Proof.Gen.ReferenceIdeal.Run
public import Idealize.ShloMosaic.Init

@[expose] public section

noncomputable section

namespace Cert.Exchange

open Idealize.ShloMosaic Idealize.SL.Sem

/-- The program over the extended reals. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-! The program as printed is the same text: only the names of the facts it cites differ, and a fact's proof does not matter. -/

theorem bodies_eq : Cert.Kernel.defs₀ (F := Bits) = Cert.KernelIdeal.defs₀ (F := Bits) := by
  unfold Cert.Kernel.defs₀ Cert.KernelIdeal.defs₀
  refine congrArg _ ?_
  funext l a
  match l, a with
  | 0, (t, s) => rfl
  | ⟨_ + 1, h⟩, _ => exact absurd h (Nat.not_lt.2 (Nat.le_add_left _ _))
theorem defs_eq : Cert.Kernel.defs (F := Bits) = Cert.KernelIdeal.defs (F := Bits) :=
  congrArg (Pipeline.defs (Cert.KernelIdeal.pcfgs (F := Bits))) bodies_eq

/-- The program as printed, at its own number formats. -/
theorem frame_kernel : Cert.quiescent_Kernel := fun m ρ _ => by
  have h := run_main (F := Bits) m ρ
  rw [← defs_eq] at h
  exact (θ_run (Cert.Kernel.defs (F := Bits)) _ _).mono
    (fun _ h => ⟨fun c => ⟨(h.1 c).1, (h.1 c).2.1, (h.1 c).2.2.1⟩, h.2⟩) h

/-- The reference: it has no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Exchange
end
-- ==== Proof.Softmax.lean ====
/-
  Softmax over 512 keys, and the same taken in two halves of 256: each half with its own maximum, sum and weighted values, the
  two merged by factors that move them to the common maximum. Over the extended reals the two agree when the scores are finite;
  of the values nothing is asked.
-/
module

public import Idealize.ShloMosaic.PureOps.Ideal

@[expose] public section

noncomputable section

namespace Cert.Exchange

open Idealize.ShloMosaic
open scoped BigOperators

/-- One query's result: the values weighted by the softmax of the scores. -/
def attend {n : ℕ} (s V : Fin n → EReal) : EReal :=
  ∑ j, V j * Ideal.div (Ideal.exp (s j - Finset.univ.sup s)) (∑ j, Ideal.exp (s j - Finset.univ.sup s))

/-- The same from two halves. -/
def merged {n : ℕ} (a b V W : Fin n → EReal) : EReal :=
  Ideal.div
    ((∑ j, V j * Ideal.exp (a j - Finset.univ.sup a)) * Ideal.exp (Finset.univ.sup a - max (Finset.univ.sup a) (Finset.univ.sup b))
      + (∑ j, W j * Ideal.exp (b j - Finset.univ.sup b)) * Ideal.exp (Finset.univ.sup b - max (Finset.univ.sup a) (Finset.univ.sup b)))
    ((∑ j, Ideal.exp (a j - Finset.univ.sup a)) * Ideal.exp (Finset.univ.sup a - max (Finset.univ.sup a) (Finset.univ.sup b))
      + (∑ j, Ideal.exp (b j - Finset.univ.sup b)) * Ideal.exp (Finset.univ.sup b - max (Finset.univ.sup a) (Finset.univ.sup b)))

/-- The order of the halves does not matter. -/
theorem merged_comm {n : ℕ} (a b V W : Fin n → EReal) : merged a b V W = merged b a W V := by
  unfold merged; rw [max_comm (Finset.univ.sup b), add_comm (_ * _), add_comm ((∑ j, Ideal.exp (b j - _)) * _)]

theorem exp_real (x y : ℝ) : Ideal.exp ((x : EReal) - (y : EReal)) = ((Real.exp (x - y) : ℝ) : EReal) := by
  rw [← EReal.coe_sub]; rfl

/-- A finite nonnegative factor goes into a sum. -/
theorem sum_mul_real {ι : Type*} (t : Finset ι) (f : ι → EReal) (c : ℝ) (hc : 0 ≤ c) : (∑ j ∈ t, f j) * (c : EReal) = ∑ j ∈ t, f j * (c : EReal) := by
  induction t using Finset.cons_induction with
  | empty => simp
  | cons i t hi ih =>
    rw [Finset.sum_cons, Finset.sum_cons, EReal.right_distrib_of_nonneg_of_ne_top (by exact_mod_cast hc) (EReal.coe_ne_top c), ih]

theorem coe_sum {ι : Type*} (t : Finset ι) (f : ι → ℝ) : ∑ j ∈ t, (f j : EReal) = ((∑ j ∈ t, f j : ℝ) : EReal) := by
  induction t using Finset.cons_induction with
  | empty => simp
  | cons i t hi ih => rw [Finset.sum_cons, Finset.sum_cons, EReal.coe_add, ih]

/-- The largest of finitely many finite scores is finite. -/
theorem sup_real {n : ℕ} [NeZero n] (a : Fin n → ℝ) : ∃ x : ℝ, (Finset.univ.sup fun j => (a j : EReal)) = (x : EReal) := by
  obtain ⟨i, -, h⟩ := Finset.exists_mem_eq_sup Finset.univ ⟨(0 : Fin n), Finset.mem_univ _⟩ fun j => (a j : EReal)
  exact ⟨a i, h⟩

/-- A half's weighted values moved from its own maximum `x` to another, `y`. -/
theorem moved {n : ℕ} (a : Fin n → ℝ) (V : Fin n → EReal) (x y : ℝ) :
    (∑ j, V j * ((Real.exp (a j - x) : ℝ) : EReal)) * ((Real.exp (x - y) : ℝ) : EReal) = ∑ j, V j * ((Real.exp (a j - y) : ℝ) : EReal) := by
  rw [sum_mul_real _ _ _ (Real.exp_pos _).le]
  refine Finset.sum_congr rfl fun j _ => ?_
  rw [mul_assoc, ← EReal.coe_mul, ← Real.exp_add]; congr 3; ring
/-- A half's sum likewise. -/
theorem moved_sum {n : ℕ} (a : Fin n → ℝ) (x y : ℝ) :
    (∑ j, ((Real.exp (a j - x) : ℝ) : EReal)) * ((Real.exp (x - y) : ℝ) : EReal) = ∑ j, ((Real.exp (a j - y) : ℝ) : EReal) := by
  have := moved a (fun _ => 1) x y; simpa only [one_mul] using this

/-- The lower and the upper half of a range. -/
def lower {n : ℕ} (j : Fin n) : Fin (n + n) := Fin.castAdd n j
def upper {n : ℕ} (j : Fin n) : Fin (n + n) := Fin.natAdd n j

theorem sup_halves {n : ℕ} (s : Fin (n + n) → EReal) :
    Finset.univ.sup s = max (Finset.univ.sup fun j => s (lower j)) (Finset.univ.sup fun j => s (upper j)) := by
  refine le_antisymm (Finset.sup_le fun j _ => ?_) (max_le (Finset.sup_le fun j _ => ?_) (Finset.sup_le fun j _ => ?_))
  · refine Fin.addCases (fun j => ?_) (fun j => ?_) j
    · exact le_max_of_le_left (Finset.le_sup (f := fun j => s (lower j)) (Finset.mem_univ j))
    · exact le_max_of_le_right (Finset.le_sup (f := fun j => s (upper j)) (Finset.mem_univ j))
  · exact Finset.le_sup (Finset.mem_univ (lower j))
  · exact Finset.le_sup (Finset.mem_univ (upper j))

/-- The halves merged are the softmax over all keys. -/
theorem merged_eq {n : ℕ} [NeZero n] (s : Fin (n + n) → ℝ) (V : Fin (n + n) → EReal) :
    merged (fun j => (s (lower j) : EReal)) (fun j => (s (upper j) : EReal)) (fun j => V (lower j)) (fun j => V (upper j))
      = attend (fun j => (s j : EReal)) V := by
  unfold merged attend
  rw [sup_halves fun j => (s j : EReal)]
  obtain ⟨x, hx⟩ := sup_real fun j => s (lower j)
  obtain ⟨y, hy⟩ := sup_real fun j => s (upper j)
  rw [hx, hy, show max (x : EReal) (y : EReal) = ((max x y : ℝ) : EReal) from (EReal.coe_strictMono.monotone.map_max).symm]
  simp only [exp_real, moved, moved_sum]
  have split : ∀ f : Fin (n + n) → EReal, ∑ j, f j = (∑ j, f (lower j)) + ∑ j, f (upper j) := fun f => Fin.sum_univ_add f
  rw [← split fun j => V j * ((Real.exp (s j - max x y) : ℝ) : EReal), ← split fun j => ((Real.exp (s j - max x y) : ℝ) : EReal), coe_sum]
  have hL : 0 < ∑ j, Real.exp (s j - max x y) :=
    Finset.sum_pos (fun _ _ => Real.exp_pos _) ⟨lower (0 : Fin n), Finset.mem_univ _⟩
  simp only [Ideal.div_coe hL.ne']
  rw [sum_mul_real _ _ _ (one_div_nonneg.mpr hL.le)]
  exact Finset.sum_congr rfl fun j _ => mul_assoc _ _ _

end Cert.Exchange
end
-- ==== Proof.HeadValue.lean ====
/-
  What the kernel computes for one head, read at an index over the extended reals: two halves of a softmax, merged.
-/
module

public import proofs.«01_k».proof.Proof.Heads
public import proofs.«01_k».proof.Proof.Softmax
public import Idealize.ShloMosaic.Lib.Pointwise

@[expose] public section

noncomputable section

namespace Cert.Exchange

open Cert.KernelIdeal Cert.KernelIdeal.Gen
open Idealize.ShloMosaic

variable (q k v kp vp : Slab Ideal)

theorem score_apply (j i : Fin 256) : score q k (ix2 j i) = ∑ d : Fin 64, k (ix4 0 0 d j) * q (ix4 0 0 d i) := by
  pointwise [score]
/-- The bit pattern of minus infinity is the least extended real. -/
theorem minus_infinity : Ideal.ofBits .f32 0xFF800000#32 = (⊥ : EReal) := by
  simp [Ideal.ofBits, Ideal.ieee]
theorem rowMax_apply (i : Fin 256) : rowMax q k (ix2 0 i) = Finset.univ.sup fun j : Fin 256 => score q k (ix2 j i) := by
  pointwise [rowMax]
  rw [minus_infinity]; rfl
theorem weights_apply (j i : Fin 256) : weights q k (ix2 j i) = Ideal.exp (score q k (ix2 j i) - rowMax q k (ix2 0 i)) := by
  pointwise [weights]
theorem rowSum_apply (i : Fin 256) : rowSum q k (ix2 0 i) = ∑ j : Fin 256, weights q k (ix2 j i) := by
  pointwise [rowSum]
theorem mixed_apply (d : Fin 64) (i : Fin 256) : mixed q k v (ix2 d i) = ∑ j : Fin 256, v (ix4 0 0 d j) * weights q k (ix2 j i) := by
  pointwise [mixed]

/-- A head's result at feature d of query i. -/
theorem headOut_apply (d : Fin 64) (i : Fin 256) :
    headOut q k v kp vp (ix4 0 0 d i)
      = merged (fun j => score q k (ix2 j i)) (fun j => score q kp (ix2 j i)) (fun j => v (ix4 0 0 d j)) (fun j => vp (ix4 0 0 d j)) := by
  pointwise [headOut, headF32, merge]
  simp only [mixed_apply, rowSum_apply, weights_apply, rowMax_apply]
  rfl

/-- A device's result block at an index. -/
theorem outBlk_apply (q k v kp vp : Blk Ideal) (b : Fin 2) (h : Fin 8) (d : Fin 64) (i : Fin 256) :
    outBlk q k v kp vp (ix4 b h d i)
      = merged (fun j : Fin 256 => ∑ e : Fin 64, k (ix4 b h e j) * q (ix4 b h e i)) (fun j => ∑ e : Fin 64, kp (ix4 b h e j) * q (ix4 b h e i))
          (fun j => v (ix4 b h d j)) (fun j => vp (ix4 b h d j)) := by
  have at_slab : ∀ (X : Blk Ideal) (e : Fin 64) (j : Fin 256), slab X b.val h.val (slab_inb b h) (ix4 0 0 e j) = X (ix4 b h e j) := by
    intro X e j
    refine congrArg X (funext fun a => Fin.ext ?_)
    fin_cases a <;> simp [Rect.emb, Rect.unit, ix4]
  refine (headOut_apply _ _ _ _ _ d i).trans ?_
  simp only [score_apply]
  congr 1
  all_goals funext j
  all_goals first
    | exact at_slab _ _ _
    | exact Finset.sum_congr rfl fun e _ => congrArg₂ (· * ·) (at_slab _ _ _) (at_slab _ _ _)

end Cert.Exchange
end
-- ==== Proof.Result.lean ====
/-
  The kernel's program over the extended reals: device c's result array, index by index, as two halves of a softmax of the
  argument arrays of device c and its partner.
-/
module

public import proofs.«01_k».proof.Proof.HeadValue
public import proofs.«01_k».proof.Proof.Region

@[expose] public section

noncomputable section

namespace Cert.Exchange

open Cert.KernelIdeal Cert.KernelIdeal.Gen
open Idealize.ShloMosaic Idealize.ShloMosaic.TcCoe Idealize.SL.Sem

variable (m : (ℓ : Loc nD τ sig) → Buf (Elt Ideal) ℓ)

/-- A device's part of an array. -/
abbrev Part : Type := S2x256x8x64.Idx → Elt Ideal .f32

/-- A device's queries, keys and values. -/
def qArg (c : Dev nD) : Part := m ((c : Thread nD τ).loc main_arg0)
def kArg (c : Dev nD) : Part := m ((c : Thread nD τ).loc main_arg1)
def vArg (c : Dev nD) : Part := m ((c : Thread nD τ).loc main_arg2)

theorem qB_eq (c : Dev nD) : qB m c = truncf (F := Ideal) (φ := .f32) .bf16 (mulf (transpose S2x8x64x256 [0, 2, 3, 1] (qArg m c) transposes_S2x256x8x64_S2x8x64x256_0_2_3_1)
    (broadcastInDim S2x8x64x256 ![] bcast_S_S2x8x64x256 (constant S_ .f32 0x3E000000#32))) bitsLt_bf16_f32 := by
  unfold qB V₁ V₀ qArg
  after_results
theorem kB_eq (c : Dev nD) : kB m c = truncf (F := Ideal) (φ := .f32) .bf16 (transpose S2x8x64x256 [0, 2, 3, 1] (kArg m c) transposes_S2x256x8x64_S2x8x64x256_0_2_3_1) bitsLt_bf16_f32 := by
  unfold kB V₁ V₀ kArg
  after_results
theorem vB_eq (c : Dev nD) : vB m c = truncf (F := Ideal) (φ := .f32) .bf16 (transpose S2x8x64x256 [0, 2, 3, 1] (vArg m c) transposes_S2x256x8x64_S2x8x64x256_0_2_3_1) bitsLt_bf16_f32 := by
  unfold vB V₁ V₀ vArg
  after_results
theorem result_eq (c : Dev nD) : V₃ m c (Proc.devRef .tc main_v11)
    = extf (F := Ideal) (φ := .bf16) .f32 (transpose S2x256x8x64 [0, 3, 1, 2] (oB m c) transposes_S2x8x64x256_S2x256x8x64_0_3_1_2) bitsLt_bf16_f32 := by
  unfold V₃
  rw [← V₂_out m c]
  after_results

theorem qB_apply (c : Dev nD) (b : Fin 2) (h : Fin 8) (e : Fin 64) (i : Fin 256) :
    qB m c (ix4 b h e i) = qArg m c (ix4 b i h e) * Ideal.ofBits .f32 0x3E000000#32 := by
  rw [qB_eq]; pointwise
theorem kB_apply (c : Dev nD) (b : Fin 2) (h : Fin 8) (e : Fin 64) (j : Fin 256) : kB m c (ix4 b h e j) = kArg m c (ix4 b j h e) := by
  rw [kB_eq]; pointwise
theorem vB_apply (c : Dev nD) (b : Fin 2) (h : Fin 8) (e : Fin 64) (j : Fin 256) : vB m c (ix4 b h e j) = vArg m c (ix4 b j h e) := by
  rw [vB_eq]; pointwise

/-- A query's score against a key. -/
def scoreOf (q k : Part) (b : Fin 2) (h : Fin 8) (i j : Fin 256) : EReal :=
  ∑ e : Fin 64, k (ix4 b j h e) * (q (ix4 b i h e) * Ideal.ofBits .f32 0x3E000000#32)

/-- Device c's result. -/
theorem result_apply (c : Dev nD) (b : Fin 2) (i : Fin 256) (h : Fin 8) (d : Fin 64) :
    V₃ m c (Proc.devRef .tc main_v11) (ix4 b i h d)
      = merged (fun j => scoreOf (qArg m c) (kArg m c) b h i j) (fun j => scoreOf (qArg m c) (kArg m (pt c)) b h i j)
          (fun j => vArg m c (ix4 b j h d)) (fun j => vArg m (pt c) (ix4 b j h d)) := by
  have h1 : V₃ m c (Proc.devRef .tc main_v11) (ix4 b i h d) = oB m c (ix4 b h d i) := by
    rw [result_eq]; pointwise
  rw [h1]
  unfold oB outF
  rw [outBlk_apply]
  simp only [qB_apply, kB_apply, vB_apply]
  rfl

end Cert.Exchange
end
-- ==== Proof.ReferenceValue.lean ====
/-
  What the reference computes, read at an index over the extended reals: one softmax over all keys.
-/
module

public import proofs.«01_k».proof.Proof.Gen.ReferenceIdeal.Run
public import proofs.«01_k».proof.Proof.Softmax
public import Idealize.ShloMosaic.Lib.Pointwise

@[expose] public section

noncomputable section

namespace Cert.Exchange.Reference

open Cert.ReferenceIdeal Cert.ReferenceIdeal.Gen
open Idealize.ShloMosaic

/-- A whole array. -/
abbrev Arr : Type := S2x512x8x64.Idx → Elt Ideal .f32

variable (Q K V : Arr)

/-- The scaled scores. -/
def scores : FVec Ideal S2x8x512x512 .f32 :=
  mulf (Host.dotGeneral (φ₁ := .f32) (φ₂ := .f32) dot_S2x512x8x64_S2x512x8x64_S2x8x512x512_3_3_1_1_02_02 none Q K)
    (broadcastInDim S2x8x512x512 ![] bcast_S_S2x8x512x512 (constant S_ .f32 0x3E000000#32))
/-- Each query's largest. -/
def tops : FVec Ideal S2x8x512 .f32 :=
  Host.reduce FloatOps.maximumf (scores Q K) (constant S_ .f32 0xFF800000#32) reducesTo_S2x8x512x512_S2x8x512_d3 h_S_
/-- The exponentials of the scores less the largest. -/
def exps : FVec Ideal S2x8x512x512 .f32 :=
  Host.exp (subf (scores Q K) (broadcastInDim S2x8x512x512 ![0, 1, 2, 3] bcast_S2x8x512x1_S2x8x512x512_0_1_2_3
    (broadcastInDim S2x8x512x1 ![0, 1, 2] bcast_S2x8x512_S2x8x512x1_0_1_2 (tops Q K))))
/-- Their sums. -/
def sums : FVec Ideal S2x8x512 .f32 :=
  Host.reduceAdd (exps Q K) (constant S_ .f32 0x00000000#32) reducesTo_S2x8x512x512_S2x8x512_d3 h_S_
/-- The result. -/
def out : Arr :=
  transpose S2x512x8x64 [0, 3, 1, 2] (Host.dotGeneral (φ₁ := .f32) (φ₂ := .f32) dot_S2x512x8x64_S2x8x512x512_S2x8x64x512_1_3_3_2_02_01 none V
    (Host.divf (exps Q K) (broadcastInDim S2x8x512x512 ![0, 1, 2, 3] bcast_S2x8x512x1_S2x8x512x512_0_1_2_3
      (broadcastInDim S2x8x512x1 ![0, 1, 2] bcast_S2x8x512_S2x8x512x1_0_1_2 (sums Q K))))) transposes_S2x8x64x512_S2x512x8x64_0_3_1_2

/-- One score. -/
def scoreAt (b : Fin 2) (h : Fin 8) (i j : Fin 512) : EReal :=
  (∑ e : Fin 64, Q (ix4 b i h e) * K (ix4 b j h e)) * Ideal.ofBits .f32 0x3E000000#32

theorem scores_apply (b : Fin 2) (h : Fin 8) (i j : Fin 512) : scores Q K (ix4 b h i j) = scoreAt Q K b h i j := by
  pointwise [scores, scoreAt]
theorem tops_apply (b : Fin 2) (h : Fin 8) (i : Fin 512) : tops Q K (ix3 b h i) = Finset.univ.sup fun j => scoreAt Q K b h i j := by
  pointwise [tops]
  simp only [scores_apply]
  rw [show Ideal.ofBits .f32 0xFF800000#32 = (⊥ : EReal) by simp [Ideal.ofBits, Ideal.ieee]]; rfl
theorem exps_apply (b : Fin 2) (h : Fin 8) (i j : Fin 512) :
    exps Q K (ix4 b h i j) = Ideal.exp (scoreAt Q K b h i j - Finset.univ.sup fun j => scoreAt Q K b h i j) := by
  pointwise [exps]
  rw [scores_apply, tops_apply]
theorem sums_apply (b : Fin 2) (h : Fin 8) (i : Fin 512) : sums Q K (ix3 b h i) = ∑ j : Fin 512, exps Q K (ix4 b h i j) := by
  pointwise [sums]
/-- The result at feature d of query i. -/
theorem out_apply (b : Fin 2) (i : Fin 512) (h : Fin 8) (d : Fin 64) :
    out Q K V (ix4 b i h d) = attend (fun j => scoreAt Q K b h i j) (fun j => V (ix4 b j h d)) := by
  pointwise [out]
  simp only [sums_apply, exps_apply]
  rfl

end Cert.Exchange.Reference
end
-- ==== Proof.Algebraic.lean ====
/-
  The kernel's program and the reference agree over the extended reals when the queries and keys are finite: device c's result
  is its block of the reference's.
-/
module

public import proofs.«01_k».proof.Proof.Result
public import proofs.«01_k».proof.Proof.ReferenceValue
public import proofs.«01_k».proof.Proof.Run
public import proofs.«01_k».proof.Defs

@[expose] public section

noncomputable section

namespace Cert.Exchange

open Idealize.ShloMosaic Idealize.SL.Sem
open Cert.KernelIdeal (nD τ sig)

/-- The precondition's side conditions: the one literal's broadcast. -/
theorem facts_pre : Cert.Pre_finite_queries_keys_KernelIdeal.Facts := ⟨by decide⟩
/-- The same at the reference's shape. -/
theorem facts_pre_reference : Cert.Pre_finite_queries_keys_ReferenceIdeal.Facts := ⟨by decide⟩

/-- Position i of device c's block, in the whole array: the devices with y = 0 hold the lower half, those with y = 1 the upper. -/
def row (c : Dev nD) (i : Fin 256) : Fin 512 := ⟨256 * ((c.val / 4) % 2) + i.val, by omega⟩

/-- A device's block of an array, at an index. -/
theorem block_apply (v : Reference.Arr) (c : Dev nD) (b : Fin 2) (i : Fin 256) (h : Fin 8) (d : Fin 64) :
    Layout.blockN ⟨4, ![2, 256, 8, 64]⟩ ⟨4, ![2, 512, 8, 64]⟩ (Layout.meshBlock [2, 2, 4] ![[], [1], [], []] c) v (by decide) (ix4 b i h d)
      = v (ix4 b (row c i) h d) := by
  refine congrArg v (funext fun a => Fin.ext ?_)
  fin_cases a <;> simp [Layout.TilesN.idx_val, Layout.meshLin, Layout.meshCoord, Layout.cutSize, row, ix4, Nat.mul_comm]

/-- Of a device and its partner one holds the lower half of the rows and the other the upper. -/
theorem row_cases (c : Dev nD) : ((∀ j, row c j = lower j) ∧ ∀ j, row (pt c) j = upper j) ∨ ((∀ j, row c j = upper j) ∧ ∀ j, row (pt c) j = lower j) := by
  have hy : ∀ c : Dev nD, ((c.val / 4) % 2 = 0 ∧ ((pt c).val / 4) % 2 = 1) ∨ ((c.val / 4) % 2 = 1 ∧ ((pt c).val / 4) % 2 = 0) := by decide
  rcases hy c with ⟨h, h'⟩ | ⟨h, h'⟩
  · exact Or.inl ⟨fun j => Fin.ext (by simp [row, lower, h]), fun j => Fin.ext (by simp [row, upper, h', Nat.add_comm])⟩
  · exact Or.inr ⟨fun j => Fin.ext (by simp [row, upper, h, Nat.add_comm]), fun j => Fin.ext (by simp [row, lower, h'])⟩

/-- Over any row: two halves merged, a device's own first, are the softmax over all keys. -/
theorem merged_rows (c : Dev nD) (s : Fin 512 → EReal) (V : Fin 512 → EReal) (hs : ∀ j, ∃ r : ℝ, s j = r) :
    merged (fun j => s (row c j)) (fun j => s (row (pt c) j)) (fun j => V (row c j)) (fun j => V (row (pt c) j)) = attend s V := by
  choose r hr using hs
  obtain rfl : s = fun j => (r j : EReal) := funext hr
  rcases row_cases c with ⟨h, h'⟩ | ⟨h, h'⟩
  · simp only [h, h']; exact merged_eq (n := 256) r V
  · simp only [h, h']; rw [merged_comm]; exact merged_eq (n := 256) r V

/-- The literal 0.125. -/
theorem eighth : Ideal.ofBits .f32 0x3E000000#32 = ((1 / 8 : ℝ) : EReal) := by
  simp [Ideal.ofBits, Ideal.ieee, -EReal.coe_mul]; norm_num

variable (m : (ℓ : Loc nD τ sig) → Buf (Elt Ideal) ℓ)

/-- The arguments of every device are its blocks of three whole arrays. -/
def Blocks (Q K V : Reference.Arr) : Prop :=
  ∀ c : Dev nD,
    qArg m c = Layout.blockN ⟨4, ![2, 256, 8, 64]⟩ ⟨4, ![2, 512, 8, 64]⟩ (Layout.meshBlock [2, 2, 4] ![[], [1], [], []] c) Q
    ∧ kArg m c = Layout.blockN ⟨4, ![2, 256, 8, 64]⟩ ⟨4, ![2, 512, 8, 64]⟩ (Layout.meshBlock [2, 2, 4] ![[], [1], [], []] c) K
    ∧ vArg m c = Layout.blockN ⟨4, ![2, 256, 8, 64]⟩ ⟨4, ![2, 512, 8, 64]⟩ (Layout.meshBlock [2, 2, 4] ![[], [1], [], []] c) V

/-- Every device's queries and keys are finite. -/
def Finite : Prop := ∀ c : Dev nD, (∀ x, ∃ r : ℝ, qArg m c x = r) ∧ ∀ x, ∃ r : ℝ, kArg m c x = r

/-- The literal of infinity. -/
theorem infinity : Ideal.ofBits .f32 0x7F800000#32 = (⊤ : EReal) := by simp [Ideal.ofBits, Ideal.ieee]

/-- An extended real whose absolute value is less than infinity is a real. -/
theorem real_of_lt (x : EReal)
    (h : BitVec.ofBool (decide (FloatOps.absf (F := Ideal) (φ := .f32) x < Ideal.ofBits .f32 0x7F800000#32)) = 1#1) : ∃ r : ℝ, x = r := by
  rw [infinity] at h
  change BitVec.ofBool (decide (max x (-x) < (⊤ : EReal))) = 1#1 at h
  induction x with
  | bot => simp at h
  | top => simp at h
  | coe r => exact ⟨r, rfl⟩

/-- The precondition, read element by element: every query and every key is a real. -/
theorem finite_of_pre (hpre : Cert.Pre_KernelIdeal_finite_queries_keys_KernelIdeal (hPre_finite_queries_keys_KernelIdeal := facts_pre) m) : Finite m := by
  intro c
  obtain ⟨hq, hk⟩ := hpre c
  refine ⟨fun x => ?_, fun x => ?_⟩
  · have h := congrFun hq x
    pointwise [Cert.Pre_finite_queries_keys_KernelIdeal.fn] at h
    exact real_of_lt _ h
  · have h := congrFun hk x
    pointwise [Cert.Pre_finite_queries_keys_KernelIdeal.fn] at h
    exact real_of_lt _ h

/-- A score between two blocks is the reference's score between their positions: the eighth comes out of the sum. -/
theorem score_block (Q K V : Reference.Arr) (hm : Blocks m Q K V) (c c' : Dev nD) (b : Fin 2) (h : Fin 8) (i j : Fin 256) :
    scoreOf (qArg m c) (kArg m c') b h i j = Reference.scoreAt Q K b h (row c i) (row c' j) := by
  unfold scoreOf Reference.scoreAt
  rw [(hm c).1, (hm c').2.1, eighth, sum_mul_real _ _ _ (by norm_num)]
  refine Finset.sum_congr rfl fun e _ => ?_
  rw [block_apply, block_apply, ← mul_assoc, mul_comm (K _)]

/-- A score between finite blocks is a real. -/
theorem score_real (hf : Finite m) (c c' : Dev nD) (b : Fin 2) (h : Fin 8) (i j : Fin 256) :
    ∃ r : ℝ, scoreOf (qArg m c) (kArg m c') b h i j = r := by
  choose q hq using (hf c).1
  choose k hk using (hf c').2
  refine ⟨∑ e : Fin 64, k (ix4 b j h e) * (q (ix4 b i h e) * (1 / 8)), ?_⟩
  unfold scoreOf
  rw [← coe_sum, eighth]
  refine Finset.sum_congr rfl fun e _ => ?_
  rw [hq, hk, EReal.coe_mul, EReal.coe_mul]

/-- A position of the whole array lies in a device's block or in its partner's. -/
theorem row_surj (c : Dev nD) (j : Fin 512) : (∃ j', j = row c j') ∨ ∃ j', j = row (pt c) j' := by
  have hj : (∃ j' : Fin 256, j = lower j') ∨ ∃ j' : Fin 256, j = upper j' := by
    by_cases h : j.val < 256
    · exact Or.inl ⟨⟨j.val, h⟩, Fin.ext (by simp [lower])⟩
    · exact Or.inr ⟨⟨j.val - 256, by omega⟩, Fin.ext (by simp [upper]; omega)⟩
  rcases row_cases c with ⟨h, h'⟩ | ⟨h, h'⟩ <;> rcases hj with ⟨j', e⟩ | ⟨j', e⟩
  · exact Or.inl ⟨j', e.trans (h j').symm⟩
  · exact Or.inr ⟨j', e.trans (h' j').symm⟩
  · exact Or.inr ⟨j', e.trans (h' j').symm⟩
  · exact Or.inl ⟨j', e.trans (h j').symm⟩

/-- Device c's result is its block of the reference's. -/
theorem result_block (Q K V : Reference.Arr) (hm : Blocks m Q K V) (hf : Finite m) (c : Dev nD) :
    V₃ m c (Proc.devRef .tc Cert.KernelIdeal.main_v11)
      = Layout.blockN ⟨4, ![2, 256, 8, 64]⟩ ⟨4, ![2, 512, 8, 64]⟩ (Layout.meshBlock [2, 2, 4] ![[], [1], [], []] c) (Reference.out Q K V) := by
  funext x
  obtain ⟨b, i, h, d, rfl⟩ : ∃ b i h d, x = ix4 b i h d := ⟨x 0, x 1, x 2, x 3, eq_ix4 x⟩
  rw [result_apply, block_apply, Reference.out_apply]
  have hv : ∀ (c' : Dev nD) (j : Fin 256), vArg m c' (ix4 b j h d) = V (ix4 b (row c' j) h d) := fun c' j => by
    rw [(hm c').2.2, block_apply]
  simp only [hv, score_block m Q K V hm]
  refine merged_rows c (fun j => Reference.scoreAt Q K b h (row c i) j) (fun j => V (ix4 b j h d)) fun j => ?_
  rcases row_surj c j with ⟨j', rfl⟩ | ⟨j', rfl⟩
  · rw [← score_block m Q K V hm]; exact score_real m hf c c b h i j'
  · rw [← score_block m Q K V hm]; exact score_real m hf c (pt c) b h i j'

/-- The claim: from finite queries and keys, laid out by the mesh, the two programs end with the same result. -/
theorem algebraic : Cert.algebraic_KernelIdeal_ReferenceIdeal_pre_finite_queries_keys_KernelIdeal
    (hKernelIdeal := Cert.KernelIdeal.Gen.facts) (hReferenceIdeal := Cert.ReferenceIdeal.Gen.facts)
    (hPre_finite_queries_keys_KernelIdeal := facts_pre) := by
  intro m g m' g' hpre hagree
  have hf : Finite m := finite_of_pre m hpre
  refine ⟨Reference.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · exact (θ_run _ _ _).mono (fun r h c => ⟨(h.1 c).2.2.2.trans (result_block m _ _ _ hagree hf c), (h.1 c).1, (h.1 c).2.1, (h.1 c).2.2.1⟩)
      (run_main (F := Ideal) m g)
  · exact (θ_run _ _ _).mono (fun r h => h 0) (Cert.ReferenceIdeal.Value.run (F := Ideal) m' g')

end Cert.Exchange
end
-- ==== Proof.lean ====
/-
  The proof of `Cert.Claim`: the two frames of the kernel, the reference's, the kernel's ideal twin being the kernel itself, and
  the kernel's value against the reference's. Each part is proved in a module under proof/Proof/; here they are put together with
  the witnesses of the programs' stated facts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := by
  refine ⟨Cert.Kernel.Gen.facts, Cert.KernelIdeal.Gen.facts, Cert.ReferenceIdeal.Gen.facts, Cert.Exchange.facts_pre,
    Cert.Exchange.facts_pre_reference, Cert.Exchange.frame_kernel, Cert.Exchange.frame_ideal, ?_, Cert.Exchange.frame_reference, ?_,
    trivial, Cert.Exchange.algebraic⟩
  · exact fun m g _ => Cert.Exchange.frame_ideal m g trivial
  · exact fun m g _ => Cert.Exchange.frame_reference m g trivial

end Cert.Proof

end
